-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S1000x16384 : Shape := ⟨2, ![1000, 16384]⟩
abbrev S1024 : Shape := ⟨1, ![1024]⟩
abbrev S56x1024 : Shape := ⟨2, ![56, 1024]⟩
abbrev S_ : Shape := ⟨0, ![]⟩
abbrev S16 : Shape := ⟨1, ![16]⟩
abbrev S1x16 : Shape := ⟨2, ![1, 16]⟩
abbrev S48x1024 : Shape := ⟨2, ![48, 1024]⟩
abbrev S16384x1000 : Shape := ⟨2, ![16384, 1000]⟩

abbrev nBuf : Table → Nat
  | .hbm => 3
  | .local .scVector .vmem => 3
  | _ => 0

abbrev bufTy : (tb : Table) → Fin (nBuf tb) → BufTy
  | .hbm, ⟨0, _⟩ => ⟨S16384, .i32⟩
  | .hbm, ⟨1, _⟩ => ⟨S1000x16384, .f32⟩
  | .hbm, ⟨2, _⟩ => ⟨S16384x1000, .f32⟩
  | .local .scVector .vmem, ⟨0, _⟩ => ⟨S1024, .i32⟩
  | .local .scVector .vmem, ⟨1, _⟩ => ⟨S56x1024, .f32⟩
  | .local .scVector .vmem, ⟨2, _⟩ => ⟨S56x1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1024_i32 : BitVec 32 := 1024#32
  let v29 : BitVec 32 := Scalar.muli v11 c1024_i32
  ![v29.toNat]
@[reducible] def k0_t1_loop : Scf.Loop 32 :=
  let c0_i32_13 : BitVec 32 := 0#32
  let c56_i32 : BitVec 32 := 56#32
  let v36 : BitVec 32 := Scalar.addi c0_i32_13 c56_i32
  let c1_i32_14 : BitVec 32 := 1#32
  ⟨c0_i32_13, v36, c1_i32_14⟩
def k0_off2 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v97 : Index := Scalar.indexCast v96
  let c0 : Index := 0#32
  ![v97.toNat, 0]
def k0_off3 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v99 : Index := Scalar.indexCast v96
  let c16 : Index := 16#32
  ![v99.toNat, 16]
def k0_off4 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v101 : Index := Scalar.indexCast v96
  let c32 : Index := 32#32
  ![v101.toNat, 32]
def k0_off5 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v103 : Index := Scalar.indexCast v96
  let c48 : Index := 48#32
  ![v103.toNat, 48]
def k0_off6 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v105 : Index := Scalar.indexCast v96
  let c64 : Index := 64#32
  ![v105.toNat, 64]
def k0_off7 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v107 : Index := Scalar.indexCast v96
  let c80 : Index := 80#32
  ![v107.toNat, 80]
def k0_off8 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v109 : Index := Scalar.indexCast v96
  let c96 : Index := 96#32
  ![v109.toNat, 96]
def k0_off9 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v111 : Index := Scalar.indexCast v96
  let c112 : Index := 112#32
  ![v111.toNat, 112]
def k0_off10 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v113 : Index := Scalar.indexCast v96
  let c128 : Index := 128#32
  ![v113.toNat, 128]
def k0_off11 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v115 : Index := Scalar.indexCast v96
  let c144 : Index := 144#32
  ![v115.toNat, 144]
def k0_off12 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v117 : Index := Scalar.indexCast v96
  let c160 : Index := 160#32
  ![v117.toNat, 160]
def k0_off13 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v119 : Index := Scalar.indexCast v96
  let c176 : Index := 176#32
  ![v119.toNat, 176]
def k0_off14 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v121 : Index := Scalar.indexCast v96
  let c192 : Index := 192#32
  ![v121.toNat, 192]
def k0_off15 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v123 : Index := Scalar.indexCast v96
  let c208 : Index := 208#32
  ![v123.toNat, 208]
def k0_off16 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v125 : Index := Scalar.indexCast v96
  let c224 : Index := 224#32
  ![v125.toNat, 224]
def k0_off17 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v127 : Index := Scalar.indexCast v96
  let c240 : Index := 240#32
  ![v127.toNat, 240]
def k0_off18 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v129 : Index := Scalar.indexCast v96
  let c256 : Index := 256#32
  ![v129.toNat, 256]
def k0_off19 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v131 : Index := Scalar.indexCast v96
  let c272 : Index := 272#32
  ![v131.toNat, 272]
def k0_off20 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v133 : Index := Scalar.indexCast v96
  let c288 : Index := 288#32
  ![v133.toNat, 288]
def k0_off21 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v135 : Index := Scalar.indexCast v96
  let c304 : Index := 304#32
  ![v135.toNat, 304]
def k0_off22 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v137 : Index := Scalar.indexCast v96
  let c320 : Index := 320#32
  ![v137.toNat, 320]
def k0_off23 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v139 : Index := Scalar.indexCast v96
  let c336 : Index := 336#32
  ![v139.toNat, 336]
def k0_off24 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v141 : Index := Scalar.indexCast v96
  let c352 : Index := 352#32
  ![v141.toNat, 352]
def k0_off25 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v143 : Index := Scalar.indexCast v96
  let c368 : Index := 368#32
  ![v143.toNat, 368]
def k0_off26 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v145 : Index := Scalar.indexCast v96
  let c384 : Index := 384#32
  ![v145.toNat, 384]
def k0_off27 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v147 : Index := Scalar.indexCast v96
  let c400 : Index := 400#32
  ![v147.toNat, 400]
def k0_off28 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v149 : Index := Scalar.indexCast v96
  let c416 : Index := 416#32
  ![v149.toNat, 416]
def k0_off29 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v151 : Index := Scalar.indexCast v96
  let c432 : Index := 432#32
  ![v151.toNat, 432]
def k0_off30 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v153 : Index := Scalar.indexCast v96
  let c448 : Index := 448#32
  ![v153.toNat, 448]
def k0_off31 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v155 : Index := Scalar.indexCast v96
  let c464 : Index := 464#32
  ![v155.toNat, 464]
def k0_off32 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v157 : Index := Scalar.indexCast v96
  let c480 : Index := 480#32
  ![v157.toNat, 480]
def k0_off33 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v159 : Index := Scalar.indexCast v96
  let c496 : Index := 496#32
  ![v159.toNat, 496]
def k0_off34 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v161 : Index := Scalar.indexCast v96
  let c512 : Index := 512#32
  ![v161.toNat, 512]
def k0_off35 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v163 : Index := Scalar.indexCast v96
  let c528 : Index := 528#32
  ![v163.toNat, 528]
def k0_off36 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v165 : Index := Scalar.indexCast v96
  let c544 : Index := 544#32
  ![v165.toNat, 544]
def k0_off37 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v167 : Index := Scalar.indexCast v96
  let c560 : Index := 560#32
  ![v167.toNat, 560]
def k0_off38 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v169 : Index := Scalar.indexCast v96
  let c576 : Index := 576#32
  ![v169.toNat, 576]
def k0_off39 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v171 : Index := Scalar.indexCast v96
  let c592 : Index := 592#32
  ![v171.toNat, 592]
def k0_off40 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v173 : Index := Scalar.indexCast v96
  let c608 : Index := 608#32
  ![v173.toNat, 608]
def k0_off41 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v175 : Index := Scalar.indexCast v96
  let c624 : Index := 624#32
  ![v175.toNat, 624]
def k0_off42 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v177 : Index := Scalar.indexCast v96
  let c640 : Index := 640#32
  ![v177.toNat, 640]
def k0_off43 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v179 : Index := Scalar.indexCast v96
  let c656 : Index := 656#32
  ![v179.toNat, 656]
def k0_off44 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v181 : Index := Scalar.indexCast v96
  let c672 : Index := 672#32
  ![v181.toNat, 672]
def k0_off45 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v183 : Index := Scalar.indexCast v96
  let c688 : Index := 688#32
  ![v183.toNat, 688]
def k0_off46 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v185 : Index := Scalar.indexCast v96
  let c704 : Index := 704#32
  ![v185.toNat, 704]
def k0_off47 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v187 : Index := Scalar.indexCast v96
  let c720 : Index := 720#32
  ![v187.toNat, 720]
def k0_off48 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v189 : Index := Scalar.indexCast v96
  let c736 : Index := 736#32
  ![v189.toNat, 736]
def k0_off49 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v191 : Index := Scalar.indexCast v96
  let c752 : Index := 752#32
  ![v191.toNat, 752]
def k0_off50 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v193 : Index := Scalar.indexCast v96
  let c768 : Index := 768#32
  ![v193.toNat, 768]
def k0_off51 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v195 : Index := Scalar.indexCast v96
  let c784 : Index := 784#32
  ![v195.toNat, 784]
def k0_off52 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v197 : Index := Scalar.indexCast v96
  let c800 : Index := 800#32
  ![v197.toNat, 800]
def k0_off53 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v199 : Index := Scalar.indexCast v96
  let c816 : Index := 816#32
  ![v199.toNat, 816]
def k0_off54 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v201 : Index := Scalar.indexCast v96
  let c832 : Index := 832#32
  ![v201.toNat, 832]
def k0_off55 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v203 : Index := Scalar.indexCast v96
  let c848 : Index := 848#32
  ![v203.toNat, 848]
def k0_off56 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v205 : Index := Scalar.indexCast v96
  let c864 : Index := 864#32
  ![v205.toNat, 864]
def k0_off57 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v207 : Index := Scalar.indexCast v96
  let c880 : Index := 880#32
  ![v207.toNat, 880]
def k0_off58 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v209 : Index := Scalar.indexCast v96
  let c896 : Index := 896#32
  ![v209.toNat, 896]
def k0_off59 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v211 : Index := Scalar.indexCast v96
  let c912 : Index := 912#32
  ![v211.toNat, 912]
def k0_off60 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v213 : Index := Scalar.indexCast v96
  let c928 : Index := 928#32
  ![v213.toNat, 928]
def k0_off61 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v215 : Index := Scalar.indexCast v96
  let c944 : Index := 944#32
  ![v215.toNat, 944]
def k0_off62 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v217 : Index := Scalar.indexCast v96
  let c960 : Index := 960#32
  ![v217.toNat, 960]
def k0_off63 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v219 : Index := Scalar.indexCast v96
  let c976 : Index := 976#32
  ![v219.toNat, 976]
def k0_off64 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v221 : Index := Scalar.indexCast v96
  let c992 : Index := 992#32
  ![v221.toNat, 992]
def k0_off65 (k0_t1 : Fin k0_t1_loop.trips) : Fin 2 → Nat :=
  let c0_i32_63 : BitVec 32 := 0#32
  let c0_i32_13 : BitVec 32 := 0#32
  let c1_i32_14 : BitVec 32 := 1#32
  let arg9 : BitVec 32 := Scf.iv c0_i32_13 c1_i32_14 k0_t1
  let c1_i32_62 : BitVec 32 := 1#32
  let v95 : BitVec 32 := Scalar.muli arg9 c1_i32_62
  let v96 : BitVec 32 := Scalar.addi c0_i32_63 v95
  let v223 : Index := Scalar.indexCast v96
  let c1008 : Index := 1008#32
  ![v223.toNat, 1008]
@[reducible] def k0_t2_loop : Scf.Loop 32 :=
  let c0_i32_16 : BitVec 32 := 0#32
  let c64_i32 : BitVec 32 := 64#32
  let v37 : BitVec 32 := Scalar.addi c0_i32_16 c64_i32
  let c1_i32_17 : BitVec 32 := 1#32
  ⟨c0_i32_16, v37, c1_i32_17⟩
def k0_off66 (k0_t2 : Fin k0_t2_loop.trips) : Fin 1 → Nat :=
  let c0_i32_63 : BitVec 32 := 0#32
  let c0_i32_16 : BitVec 32 := 0#32
  let c1_i32_17 : BitVec 32 := 1#32
  let arg9 : BitVec 32 := Scf.iv c0_i32_16 c1_i32_17 k0_t2
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk1 (v102 : IVec S16 32) (v112 : IVec S16 32) : Prop :=
  (∀ a x, ((![v112, v102] : Fin 2 → IVec S16 32) a x).toNat < S56x1024.size a)
theorem k0_idx1_inb : ∀ (v102 : IVec S16 32) (v112 : IVec S16 32) (k0_hw1 : k0_chk1 v102 v112), ∀ a x, ((![v112, v102] : Fin 2 → IVec S16 32) a x).toNat < S56x1024.size a := fun v102 v112 k0_hw1 => k0_hw1
def k0_off67 (i : grid0.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c504_i32 : BitVec 32 := 504#32
  let v34 : BitVec 32 := Scalar.muli v28 c504_i32
  let v35 : BitVec 32 := Scalar.addi v34 c0_i32_12
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1024_i32 : BitVec 32 := 1024#32
  let v29 : BitVec 32 := Scalar.muli v11 c1024_i32
  ![v35.toNat, v29.toNat]
@[reducible] def k0_t3_loop : Scf.Loop 32 :=
  let c0_i32_20 : BitVec 32 := 0#32
  let c56_i32_21 : BitVec 32 := 56#32
  let v41 : BitVec 32 := Scalar.addi c0_i32_20 c56_i32_21
  let c1_i32_22 : BitVec 32 := 1#32
  ⟨c0_i32_20, v41, c1_i32_22⟩
def k0_off68 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v97 : Index := Scalar.indexCast v96
  let c0 : Index := 0#32
  ![v97.toNat, 0]
def k0_off69 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v99 : Index := Scalar.indexCast v96
  let c16 : Index := 16#32
  ![v99.toNat, 16]
def k0_off70 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v101 : Index := Scalar.indexCast v96
  let c32 : Index := 32#32
  ![v101.toNat, 32]
def k0_off71 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v103 : Index := Scalar.indexCast v96
  let c48 : Index := 48#32
  ![v103.toNat, 48]
def k0_off72 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v105 : Index := Scalar.indexCast v96
  let c64 : Index := 64#32
  ![v105.toNat, 64]
def k0_off73 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v107 : Index := Scalar.indexCast v96
  let c80 : Index := 80#32
  ![v107.toNat, 80]
def k0_off74 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v109 : Index := Scalar.indexCast v96
  let c96 : Index := 96#32
  ![v109.toNat, 96]
def k0_off75 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v111 : Index := Scalar.indexCast v96
  let c112 : Index := 112#32
  ![v111.toNat, 112]
def k0_off76 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v113 : Index := Scalar.indexCast v96
  let c128 : Index := 128#32
  ![v113.toNat, 128]
def k0_off77 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v115 : Index := Scalar.indexCast v96
  let c144 : Index := 144#32
  ![v115.toNat, 144]
def k0_off78 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v117 : Index := Scalar.indexCast v96
  let c160 : Index := 160#32
  ![v117.toNat, 160]
def k0_off79 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v119 : Index := Scalar.indexCast v96
  let c176 : Index := 176#32
  ![v119.toNat, 176]
def k0_off80 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v121 : Index := Scalar.indexCast v96
  let c192 : Index := 192#32
  ![v121.toNat, 192]
def k0_off81 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v123 : Index := Scalar.indexCast v96
  let c208 : Index := 208#32
  ![v123.toNat, 208]
def k0_off82 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v125 : Index := Scalar.indexCast v96
  let c224 : Index := 224#32
  ![v125.toNat, 224]
def k0_off83 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v127 : Index := Scalar.indexCast v96
  let c240 : Index := 240#32
  ![v127.toNat, 240]
def k0_off84 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v129 : Index := Scalar.indexCast v96
  let c256 : Index := 256#32
  ![v129.toNat, 256]
def k0_off85 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v131 : Index := Scalar.indexCast v96
  let c272 : Index := 272#32
  ![v131.toNat, 272]
def k0_off86 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v133 : Index := Scalar.indexCast v96
  let c288 : Index := 288#32
  ![v133.toNat, 288]
def k0_off87 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v135 : Index := Scalar.indexCast v96
  let c304 : Index := 304#32
  ![v135.toNat, 304]
def k0_off88 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v137 : Index := Scalar.indexCast v96
  let c320 : Index := 320#32
  ![v137.toNat, 320]
def k0_off89 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v139 : Index := Scalar.indexCast v96
  let c336 : Index := 336#32
  ![v139.toNat, 336]
def k0_off90 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v141 : Index := Scalar.indexCast v96
  let c352 : Index := 352#32
  ![v141.toNat, 352]
def k0_off91 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v143 : Index := Scalar.indexCast v96
  let c368 : Index := 368#32
  ![v143.toNat, 368]
def k0_off92 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v145 : Index := Scalar.indexCast v96
  let c384 : Index := 384#32
  ![v145.toNat, 384]
def k0_off93 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v147 : Index := Scalar.indexCast v96
  let c400 : Index := 400#32
  ![v147.toNat, 400]
def k0_off94 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v149 : Index := Scalar.indexCast v96
  let c416 : Index := 416#32
  ![v149.toNat, 416]
def k0_off95 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v151 : Index := Scalar.indexCast v96
  let c432 : Index := 432#32
  ![v151.toNat, 432]
def k0_off96 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v153 : Index := Scalar.indexCast v96
  let c448 : Index := 448#32
  ![v153.toNat, 448]
def k0_off97 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v155 : Index := Scalar.indexCast v96
  let c464 : Index := 464#32
  ![v155.toNat, 464]
def k0_off98 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v157 : Index := Scalar.indexCast v96
  let c480 : Index := 480#32
  ![v157.toNat, 480]
def k0_off99 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v159 : Index := Scalar.indexCast v96
  let c496 : Index := 496#32
  ![v159.toNat, 496]
def k0_off100 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v161 : Index := Scalar.indexCast v96
  let c512 : Index := 512#32
  ![v161.toNat, 512]
def k0_off101 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v163 : Index := Scalar.indexCast v96
  let c528 : Index := 528#32
  ![v163.toNat, 528]
def k0_off102 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v165 : Index := Scalar.indexCast v96
  let c544 : Index := 544#32
  ![v165.toNat, 544]
def k0_off103 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v167 : Index := Scalar.indexCast v96
  let c560 : Index := 560#32
  ![v167.toNat, 560]
def k0_off104 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v169 : Index := Scalar.indexCast v96
  let c576 : Index := 576#32
  ![v169.toNat, 576]
def k0_off105 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v171 : Index := Scalar.indexCast v96
  let c592 : Index := 592#32
  ![v171.toNat, 592]
def k0_off106 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v173 : Index := Scalar.indexCast v96
  let c608 : Index := 608#32
  ![v173.toNat, 608]
def k0_off107 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v175 : Index := Scalar.indexCast v96
  let c624 : Index := 624#32
  ![v175.toNat, 624]
def k0_off108 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v177 : Index := Scalar.indexCast v96
  let c640 : Index := 640#32
  ![v177.toNat, 640]
def k0_off109 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v179 : Index := Scalar.indexCast v96
  let c656 : Index := 656#32
  ![v179.toNat, 656]
def k0_off110 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v181 : Index := Scalar.indexCast v96
  let c672 : Index := 672#32
  ![v181.toNat, 672]
def k0_off111 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v183 : Index := Scalar.indexCast v96
  let c688 : Index := 688#32
  ![v183.toNat, 688]
def k0_off112 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v185 : Index := Scalar.indexCast v96
  let c704 : Index := 704#32
  ![v185.toNat, 704]
def k0_off113 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v187 : Index := Scalar.indexCast v96
  let c720 : Index := 720#32
  ![v187.toNat, 720]
def k0_off114 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v189 : Index := Scalar.indexCast v96
  let c736 : Index := 736#32
  ![v189.toNat, 736]
def k0_off115 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v191 : Index := Scalar.indexCast v96
  let c752 : Index := 752#32
  ![v191.toNat, 752]
def k0_off116 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v193 : Index := Scalar.indexCast v96
  let c768 : Index := 768#32
  ![v193.toNat, 768]
def k0_off117 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v195 : Index := Scalar.indexCast v96
  let c784 : Index := 784#32
  ![v195.toNat, 784]
def k0_off118 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v197 : Index := Scalar.indexCast v96
  let c800 : Index := 800#32
  ![v197.toNat, 800]
def k0_off119 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v199 : Index := Scalar.indexCast v96
  let c816 : Index := 816#32
  ![v199.toNat, 816]
def k0_off120 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v201 : Index := Scalar.indexCast v96
  let c832 : Index := 832#32
  ![v201.toNat, 832]
def k0_off121 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v203 : Index := Scalar.indexCast v96
  let c848 : Index := 848#32
  ![v203.toNat, 848]
def k0_off122 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v205 : Index := Scalar.indexCast v96
  let c864 : Index := 864#32
  ![v205.toNat, 864]
def k0_off123 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v207 : Index := Scalar.indexCast v96
  let c880 : Index := 880#32
  ![v207.toNat, 880]
def k0_off124 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v209 : Index := Scalar.indexCast v96
  let c896 : Index := 896#32
  ![v209.toNat, 896]
def k0_off125 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v211 : Index := Scalar.indexCast v96
  let c912 : Index := 912#32
  ![v211.toNat, 912]
def k0_off126 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v213 : Index := Scalar.indexCast v96
  let c928 : Index := 928#32
  ![v213.toNat, 928]
def k0_off127 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v215 : Index := Scalar.indexCast v96
  let c944 : Index := 944#32
  ![v215.toNat, 944]
def k0_off128 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v217 : Index := Scalar.indexCast v96
  let c960 : Index := 960#32
  ![v217.toNat, 960]
def k0_off129 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v219 : Index := Scalar.indexCast v96
  let c976 : Index := 976#32
  ![v219.toNat, 976]
def k0_off130 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v221 : Index := Scalar.indexCast v96
  let c992 : Index := 992#32
  ![v221.toNat, 992]
def k0_off131 (k0_t3 : Fin k0_t3_loop.trips) : Fin 2 → Nat :=
  let c0_i32_63 : BitVec 32 := 0#32
  let c0_i32_20 : BitVec 32 := 0#32
  let c1_i32_22 : BitVec 32 := 1#32
  let arg9 : BitVec 32 := Scf.iv c0_i32_20 c1_i32_22 k0_t3
  let c1_i32_62 : BitVec 32 := 1#32
  let v95 : BitVec 32 := Scalar.muli arg9 c1_i32_62
  let v96 : BitVec 32 := Scalar.addi c0_i32_63 v95
  let v223 : Index := Scalar.indexCast v96
  let c1008 : Index := 1008#32
  ![v223.toNat, 1008]
@[reducible] def k0_t4_loop : Scf.Loop 32 :=
  let c0_i32_24 : BitVec 32 := 0#32
  let c64_i32_25 : BitVec 32 := 64#32
  let v42 : BitVec 32 := Scalar.addi c0_i32_24 c64_i32_25
  let c1_i32_26 : BitVec 32 := 1#32
  ⟨c0_i32_24, v42, c1_i32_26⟩
def k0_off132 (k0_t4 : Fin k0_t4_loop.trips) : Fin 1 → Nat :=
  let c0_i32_63 : BitVec 32 := 0#32
  let c0_i32_24 : BitVec 32 := 0#32
  let c1_i32_26 : BitVec 32 := 1#32
  let arg9 : BitVec 32 := Scf.iv c0_i32_24 c1_i32_26 k0_t4
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk2 (v102 : IVec S16 32) (v112 : IVec S16 32) : Prop :=
  (∀ a x, ((![v112, v102] : Fin 2 → IVec S16 32) a x).toNat < S56x1024.size a)
theorem k0_idx2_inb : ∀ (v102 : IVec S16 32) (v112 : IVec S16 32) (k0_hw2 : k0_chk2 v102 v112), ∀ a x, ((![v112, v102] : Fin 2 → IVec S16 32) a x).toNat < S56x1024.size a := fun v102 v112 k0_hw2 => k0_hw2
@[reducible] def k0_t5_loop : Scf.Loop 32 :=
  let c0_i32_28 : BitVec 32 := 0#32
  let c64_i32_29 : BitVec 32 := 64#32
  let v48 : BitVec 32 := Scalar.addi c0_i32_28 c64_i32_29
  let c1_i32_30 : BitVec 32 := 1#32
  ⟨c0_i32_28, v48, c1_i32_30⟩
def k0_off133 (k0_t5 : Fin k0_t5_loop.trips) : Fin 1 → Nat :=
  let c0_i32_63 : BitVec 32 := 0#32
  let c0_i32_28 : BitVec 32 := 0#32
  let c1_i32_30 : BitVec 32 := 1#32
  let arg9 : BitVec 32 := Scf.iv c0_i32_28 c1_i32_30 k0_t5
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk3 (v102 : IVec S16 32) (v112 : IVec S16 32) : Prop :=
  (∀ a x, ((![v112, v102] : Fin 2 → IVec S16 32) a x).toNat < S56x1024.size a)
theorem k0_idx3_inb : ∀ (v102 : IVec S16 32) (v112 : IVec S16 32) (k0_hw3 : k0_chk3 v102 v112), ∀ a x, ((![v112, v102] : Fin 2 → IVec S16 32) a x).toNat < S56x1024.size a := fun v102 v112 k0_hw3 => k0_hw3

def k0_chk4 (v102 : IVec S16 32) (v122 : IVec S16 32) : Prop :=
  (∀ a x, ((![v122, v102] : Fin 2 → IVec S16 32) a x).toNat < S56x1024.size a)
theorem k0_idx4_inb : ∀ (v102 : IVec S16 32) (v122 : IVec S16 32) (k0_hw4 : k0_chk4 v102 v122), ∀ a x, ((![v122, v102] : Fin 2 → IVec S16 32) a x).toNat < S56x1024.size a := fun v102 v122 k0_hw4 => k0_hw4
@[reducible] def k0_t6_loop : Scf.Loop 32 :=
  let c0_i32_32 : BitVec 32 := 0#32
  let c64_i32_33 : BitVec 32 := 64#32
  let v54 : BitVec 32 := Scalar.addi c0_i32_32 c64_i32_33
  let c1_i32_34 : BitVec 32 := 1#32
  ⟨c0_i32_32, v54, c1_i32_34⟩
def k0_off134 (k0_t6 : Fin k0_t6_loop.trips) : Fin 1 → Nat :=
  let c0_i32_63 : BitVec 32 := 0#32
  let c0_i32_32 : BitVec 32 := 0#32
  let c1_i32_34 : BitVec 32 := 1#32
  let arg9 : BitVec 32 := Scf.iv c0_i32_32 c1_i32_34 k0_t6
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk5 (v102 : IVec S16 32) (v112 : IVec S16 32) : Prop :=
  (∀ a x, ((![v112, v102] : Fin 2 → IVec S16 32) a x).toNat < S56x1024.size a)
theorem k0_idx5_inb : ∀ (v102 : IVec S16 32) (v112 : IVec S16 32) (k0_hw5 : k0_chk5 v102 v112), ∀ a x, ((![v112, v102] : Fin 2 → IVec S16 32) a x).toNat < S56x1024.size a := fun v102 v112 k0_hw5 => k0_hw5

def k0_chk6 (v102 : IVec S16 32) (v122 : IVec S16 32) : Prop :=
  (∀ a x, ((![v122, v102] : Fin 2 → IVec S16 32) a x).toNat < S56x1024.size a)
theorem k0_idx6_inb : ∀ (v102 : IVec S16 32) (v122 : IVec S16 32) (k0_hw6 : k0_chk6 v102 v122), ∀ a x, ((![v122, v102] : Fin 2 → IVec S16 32) a x).toNat < S56x1024.size a := fun v102 v122 k0_hw6 => k0_hw6
@[reducible] def k0_t7_loop : Scf.Loop 32 :=
  let c0_i32_36 : BitVec 32 := 0#32
  let c64_i32_37 : BitVec 32 := 64#32
  let v60 : BitVec 32 := Scalar.addi c0_i32_36 c64_i32_37
  let c1_i32_38 : BitVec 32 := 1#32
  ⟨c0_i32_36, v60, c1_i32_38⟩
def k0_off135 (k0_t7 : Fin k0_t7_loop.trips) : Fin 1 → Nat :=
  let c0_i32_63 : BitVec 32 := 0#32
  let c0_i32_36 : BitVec 32 := 0#32
  let c1_i32_38 : BitVec 32 := 1#32
  let arg9 : BitVec 32 := Scf.iv c0_i32_36 c1_i32_38 k0_t7
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk7 (v102 : IVec S16 32) (v112 : IVec S16 32) : Prop :=
  (∀ a x, ((![v112, v102] : Fin 2 → IVec S16 32) a x).toNat < S56x1024.size a)
theorem k0_idx7_inb : ∀ (v102 : IVec S16 32) (v112 : IVec S16 32) (k0_hw7 : k0_chk7 v102 v112), ∀ a x, ((![v112, v102] : Fin 2 → IVec S16 32) a x).toNat < S56x1024.size a := fun v102 v112 k0_hw7 => k0_hw7

def k0_chk8 (v102 : IVec S16 32) (v122 : IVec S16 32) : Prop :=
  (∀ a x, ((![v122, v102] : Fin 2 → IVec S16 32) a x).toNat < S56x1024.size a)
theorem k0_idx8_inb : ∀ (v102 : IVec S16 32) (v122 : IVec S16 32) (k0_hw8 : k0_chk8 v102 v122), ∀ a x, ((![v122, v102] : Fin 2 → IVec S16 32) a x).toNat < S56x1024.size a := fun v102 v122 k0_hw8 => k0_hw8
@[reducible] def k0_t8_loop : Scf.Loop 32 :=
  let c0_i32_40 : BitVec 32 := 0#32
  let c64_i32_41 : BitVec 32 := 64#32
  let v66 : BitVec 32 := Scalar.addi c0_i32_40 c64_i32_41
  let c1_i32_42 : BitVec 32 := 1#32
  ⟨c0_i32_40, v66, c1_i32_42⟩
def k0_off136 (k0_t8 : Fin k0_t8_loop.trips) : Fin 1 → Nat :=
  let c0_i32_63 : BitVec 32 := 0#32
  let c0_i32_40 : BitVec 32 := 0#32
  let c1_i32_42 : BitVec 32 := 1#32
  let arg9 : BitVec 32 := Scf.iv c0_i32_40 c1_i32_42 k0_t8
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk9 (v102 : IVec S16 32) (v112 : IVec S16 32) : Prop :=
  (∀ a x, ((![v112, v102] : Fin 2 → IVec S16 32) a x).toNat < S56x1024.size a)
theorem k0_idx9_inb : ∀ (v102 : IVec S16 32) (v112 : IVec S16 32) (k0_hw9 : k0_chk9 v102 v112), ∀ a x, ((![v112, v102] : Fin 2 → IVec S16 32) a x).toNat < S56x1024.size a := fun v102 v112 k0_hw9 => k0_hw9

def k0_chk10 (v102 : IVec S16 32) (v122 : IVec S16 32) : Prop :=
  (∀ a x, ((![v122, v102] : Fin 2 → IVec S16 32) a x).toNat < S56x1024.size a)
theorem k0_idx10_inb : ∀ (v102 : IVec S16 32) (v122 : IVec S16 32) (k0_hw10 : k0_chk10 v102 v122), ∀ a x, ((![v122, v102] : Fin 2 → IVec S16 32) a x).toNat < S56x1024.size a := fun v102 v122 k0_hw10 => k0_hw10
@[reducible] def k0_t9_loop : Scf.Loop 32 :=
  let c0_i32_44 : BitVec 32 := 0#32
  let c64_i32_45 : BitVec 32 := 64#32
  let v72 : BitVec 32 := Scalar.addi c0_i32_44 c64_i32_45
  let c1_i32_46 : BitVec 32 := 1#32
  ⟨c0_i32_44, v72, c1_i32_46⟩
def k0_off137 (k0_t9 : Fin k0_t9_loop.trips) : Fin 1 → Nat :=
  let c0_i32_63 : BitVec 32 := 0#32
  let c0_i32_44 : BitVec 32 := 0#32
  let c1_i32_46 : BitVec 32 := 1#32
  let arg9 : BitVec 32 := Scf.iv c0_i32_44 c1_i32_46 k0_t9
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk11 (v102 : IVec S16 32) (v112 : IVec S16 32) : Prop :=
  (∀ a x, ((![v112, v102] : Fin 2 → IVec S16 32) a x).toNat < S56x1024.size a)
theorem k0_idx11_inb : ∀ (v102 : IVec S16 32) (v112 : IVec S16 32) (k0_hw11 : k0_chk11 v102 v112), ∀ a x, ((![v112, v102] : Fin 2 → IVec S16 32) a x).toNat < S56x1024.size a := fun v102 v112 k0_hw11 => k0_hw11

def k0_chk12 (v102 : IVec S16 32) (v122 : IVec S16 32) : Prop :=
  (∀ a x, ((![v122, v102] : Fin 2 → IVec S16 32) a x).toNat < S56x1024.size a)
theorem k0_idx12_inb : ∀ (v102 : IVec S16 32) (v122 : IVec S16 32) (k0_hw12 : k0_chk12 v102 v122), ∀ a x, ((![v122, v102] : Fin 2 → IVec S16 32) a x).toNat < S56x1024.size a := fun v102 v122 k0_hw12 => k0_hw12
@[reducible] def k0_t10_loop : Scf.Loop 32 :=
  let c0_i32_48 : BitVec 32 := 0#32
  let c64_i32_49 : BitVec 32 := 64#32
  let v78 : BitVec 32 := Scalar.addi c0_i32_48 c64_i32_49
  let c1_i32_50 : BitVec 32 := 1#32
  ⟨c0_i32_48, v78, c1_i32_50⟩
def k0_off138 (k0_t10 : Fin k0_t10_loop.trips) : Fin 1 → Nat :=
  let c0_i32_63 : BitVec 32 := 0#32
  let c0_i32_48 : BitVec 32 := 0#32
  let c1_i32_50 : BitVec 32 := 1#32
  let arg9 : BitVec 32 := Scf.iv c0_i32_48 c1_i32_50 k0_t10
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk13 (v102 : IVec S16 32) (v112 : IVec S16 32) : Prop :=
  (∀ a x, ((![v112, v102] : Fin 2 → IVec S16 32) a x).toNat < S56x1024.size a)
theorem k0_idx13_inb : ∀ (v102 : IVec S16 32) (v112 : IVec S16 32) (k0_hw13 : k0_chk13 v102 v112), ∀ a x, ((![v112, v102] : Fin 2 → IVec S16 32) a x).toNat < S56x1024.size a := fun v102 v112 k0_hw13 => k0_hw13

def k0_chk14 (v102 : IVec S16 32) (v122 : IVec S16 32) : Prop :=
  (∀ a x, ((![v122, v102] : Fin 2 → IVec S16 32) a x).toNat < S56x1024.size a)
theorem k0_idx14_inb : ∀ (v102 : IVec S16 32) (v122 : IVec S16 32) (k0_hw14 : k0_chk14 v102 v122), ∀ a x, ((![v122, v102] : Fin 2 → IVec S16 32) a x).toNat < S56x1024.size a := fun v102 v122 k0_hw14 => k0_hw14
@[reducible] def k0_t11_loop : Scf.Loop 32 :=
  let c0_i32_54 : BitVec 32 := 0#32
  let c64_i32_55 : BitVec 32 := 64#32
  let v86 : BitVec 32 := Scalar.addi c0_i32_54 c64_i32_55
  let c1_i32_56 : BitVec 32 := 1#32
  ⟨c0_i32_54, v86, c1_i32_56⟩
def k0_off139 (k0_t11 : Fin k0_t11_loop.trips) : Fin 1 → Nat :=
  let c0_i32_63 : BitVec 32 := 0#32
  let c0_i32_54 : BitVec 32 := 0#32
  let c1_i32_56 : BitVec 32 := 1#32
  let arg9 : BitVec 32 := Scf.iv c0_i32_54 c1_i32_56 k0_t11
  let c1_i32_62 : BitVec 32 := 1#32
  let v95 : BitVec 32 := Scalar.muli arg9 c1_i32_62
  let v96 : BitVec 32 := Scalar.addi c0_i32_63 v95
  let c16_i32_64 : BitVec 32 := 16#32
  let v97 : BitVec 32 := Scalar.muli v96 c16_i32_64
  let v98 : Index := Scalar.indexCast v97
  ![v98.toNat]

def k0_chk15 (v102 : IVec S16 32) (v112 : IVec S16 32) : Prop :=
  (∀ a x, ((![v112, v102] : Fin 2 → IVec S16 32) a x).toNat < S56x1024.size a)
theorem k0_idx15_inb : ∀ (v102 : IVec S16 32) (v112 : IVec S16 32) (k0_hw15 : k0_chk15 v102 v112), ∀ a x, ((![v112, v102] : Fin 2 → IVec S16 32) a x).toNat < S56x1024.size a := fun v102 v112 k0_hw15 => k0_hw15

def k0_chk16 (v102 : IVec S16 32) (v122 : IVec S16 32) : Prop :=
  (∀ a x, ((![v122, v102] : Fin 2 → IVec S16 32) a x).toNat < S56x1024.size a)
theorem k0_idx16_inb : ∀ (v102 : IVec S16 32) (v122 : IVec S16 32) (k0_hw16 : k0_chk16 v102 v122), ∀ a x, ((![v122, v102] : Fin 2 → IVec S16 32) a x).toNat < S56x1024.size a := fun v102 v122 k0_hw16 => k0_hw16
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c0_i32_58 : BitVec 32 := 0#32
  let v87 : BitVec 1 := Scalar.cmpi .eq v28 c0_i32_58
  let v88 : BitVec 32 := Scalar.extui v87
  let c0_i32_59 : BitVec 32 := 0#32
  let v89 : BitVec 1 := Scalar.cmpi .ne v88 c0_i32_59
  v89

def k0_off140 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c504_i32 : BitVec 32 := 504#32
  let v34 : BitVec 32 := Scalar.muli v28 c504_i32
  let c448_i32 : BitVec 32 := 448#32
  let v83 : BitVec 32 := Scalar.addi v34 c448_i32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1024_i32 : BitVec 32 := 1024#32
  let v29 : BitVec 32 := Scalar.muli v11 c1024_i32
  ![v83.toNat, v29.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c1_i32_60 : BitVec 32 := 1#32
  let v90 : BitVec 1 := Scalar.cmpi .eq v28 c1_i32_60
  let v91 : BitVec 32 := Scalar.extui v90
  let c0_i32_61 : BitVec 32 := 0#32
  let v92 : BitVec 1 := Scalar.cmpi .ne v91 c0_i32_61
  v92

def k0_off141 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c504_i32 : BitVec 32 := 504#32
  let v34 : BitVec 32 := Scalar.muli v28 c504_i32
  let c448_i32 : BitVec 32 := 448#32
  let v83 : BitVec 32 := Scalar.addi v34 c448_i32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1024_i32 : BitVec 32 := 1024#32
  let v29 : BitVec 32 := Scalar.muli v11 c1024_i32
  ![v83.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x1 : Shape := ⟨2, ![16384, 1]⟩
abbrev S1x1000 : Shape := ⟨2, ![1, 1000]⟩
abbrev S16384x1000 : Shape := ⟨2, ![16384, 1000]⟩

abbrev nBuf : Space → Nat
  | .hbm => 7
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1, .i32⟩
  | .hbm, ⟨2, _⟩ => ⟨S1x1000, .i32⟩
  | .hbm, ⟨3, _⟩ => ⟨S16384x1000, .i32⟩
  | .hbm, ⟨4, _⟩ => ⟨S16384x1000, .i32⟩
  | .hbm, ⟨5, _⟩ => ⟨S16384x1000, .i1⟩
  | .hbm, ⟨6, _⟩ => ⟨S16384x1000, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Hot.lean ====
/-
  The value of the kernel, as pure mathematics over the contents of a tile's buffers.

  A tile keeps 1024 labels and fills a block of 56 rows by 1024 columns: row `r` of the block that starts at class
  `C` is one exactly in the columns whose label is `C + r` (`hot`). Sixteen columns at a time, a masked scatter takes
  the ones of the previous block out and puts those of the next one in; `mix` is the block half way through.
-/
module

public import proofs.«01_k».proof.Proof.Gen.KernelIdeal.Skeleton

@[expose] public section

noncomputable section

namespace Cert.Proof.OneHot

open Cert.KernelIdeal Cert.KernelIdeal.Gen

open Idealize.ShloMosaic

variable {F : FTy → Type} [FloatOps F]

/-- The two values a one-hot array holds. -/
abbrev zeroF : F .f32 := Scalar.ofBits .f32 0x00000000#32
abbrev oneF : F .f32 := Scalar.ofBits .f32 0x3F800000#32

/-- Index `n` of the label buffer. -/
def ixL (n : ℕ) (h : n < 1024) : S1024.Idx := fun a => ⟨n, by rw [Fin.eq_zero a]; exact h⟩

theorem ixL_eq (x : S1024.Idx) (n : ℕ) (h : n < 1024) (e : (x 0).val = n) : x = ixL n h := by
  funext a; apply Fin.ext; rw [Fin.eq_zero a]; exact e

theorem row_lt (y : S56x1024.Idx) : (y 0).val < 56 := (y 0).isLt
theorem col_lt (y : S56x1024.Idx) : (y 1).val < 1024 := (y 1).isLt

/-- The label of the column an element of the block lies in. -/
abbrev label (xs : Vec F S1024 .i32) (y : S56x1024.Idx) : BitVec 32 := xs (ixL (y 1).val (col_lt y))

/-- The block of zeros. -/
abbrev blank : Vec F S56x1024 .f32 := fun _ => zeroF

/-- The block of the `n` classes from `C` on: one where the column's label is the row's class. -/
def hot (xs : Vec F S1024 .i32) (C n : ℕ) : Vec F S56x1024 .f32 :=
  fun y => if (y 0).val < n ∧ (label xs y).toNat = C + (y 0).val then oneF else zeroF

/-- A block whose first `16 * j` columns are `new`'s and the rest `old`'s. -/
def mix (j : ℕ) (old new : Vec F S56x1024 .f32) : Vec F S56x1024 .f32 :=
  fun y => if (y 1).val < 16 * j then new y else old y

/-- A block whose first `j` rows are zero and the rest `old`'s. -/
def wipe (j : ℕ) (old : Vec F S56x1024 .f32) : Vec F S56x1024 .f32 :=
  fun y => if (y 0).val < j then zeroF else old y

/-- `f` with the value `w` put at the labels' rows in the columns of group `j`, for the labels among the `n` classes
    from `C` on. -/
def put (xs : Vec F S1024 .i32) (j C n : ℕ) (w : F .f32) (f : Vec F S56x1024 .f32) : Vec F S56x1024 .f32 :=
  fun y => if 16 * j ≤ (y 1).val ∧ (y 1).val < 16 * j + 16 ∧ (y 0).val < n ∧ (label xs y).toNat = C + (y 0).val then w else f y

theorem mix_zero (old new : Vec F S56x1024 .f32) : mix 0 old new = old := by
  funext y; unfold mix; rw [if_neg (by omega)]
theorem mix_all (old new : Vec F S56x1024 .f32) : mix 64 old new = new := by
  funext y; unfold mix; rw [if_pos (by have := col_lt y; omega)]
theorem wipe_zero (old : Vec F S56x1024 .f32) : wipe 0 old = old := by
  funext y; unfold wipe; rw [if_neg (by omega)]
theorem wipe_all (old : Vec F S56x1024 .f32) : wipe 56 old = blank := by
  funext y; unfold wipe; rw [if_pos (row_lt y)]

/-- A group of the first block: ones put over zeros. -/
theorem put_blank (xs : Vec F S1024 .i32) (j C n : ℕ) :
    put xs j C n oneF (mix j blank (hot xs C n)) = mix (j + 1) blank (hot xs C n) := by
  funext y; unfold put mix hot
  split_ifs <;> first | rfl | (exfalso; omega)

/-- A group of a later block: the previous block's ones taken out, then the next one's put in. -/
theorem put_put (xs : Vec F S1024 .i32) (j C n C' n' : ℕ) :
    put xs j C' n' oneF (put xs j C n zeroF (mix j (hot xs C n) (hot xs C' n'))) = mix (j + 1) (hot xs C n) (hot xs C' n') := by
  funext y; unfold put mix hot
  split_ifs <;> first | rfl | (exfalso; omega)

/-! ## The scatter -/

/-- Lane `k`. -/
abbrev lane (k : Fin 16) : S16.Idx := Shape.ofLane (d := ![16]) k

theorem lane_val (k : Fin 16) : ((lane k) 0).val = k.val := rfl
theorem eq_lane (x : S16.Idx) : x = lane (x 0) := by
  funext a; rw [Fin.eq_zero a]; rfl

/-- A masked scatter of one value: it stands wherever a set lane points. -/
theorem storeIdx_const (f : Vec F S56x1024 .f32) (row col : IVec S16 32) (w : F .f32) (mask : IVec S16 1)
    (h : ∀ a x, ((![row, col] : Fin 2 → IVec S16 32) a x).toNat < S56x1024.size a) (y : S56x1024.Idx) :
    storeIdx (F := F) (e := .f32) (d := ![16]) f ![row, col] (fun _ => w) mask false h y
      = if ∃ k : Fin 16, mask (lane k) = 1 ∧ (y 0).val = (row (lane k)).toNat ∧ (y 1).val = (col (lane k)).toNat then w else f y := by
  have key : ∀ (l : List (Fin 16)) (f : Vec F S56x1024 .f32),
      (l.foldl (fun (g : Vec F S56x1024 .f32) (k : Fin 16) =>
        if mask (lane k) = 1 then
          (fun j => if (∀ a, (j a).val = ((idxAt ![row, col] h (lane k)) a).val) then w else g j)
        else g) f) y
      = if ∃ k ∈ l, mask (lane k) = 1 ∧ (y 0).val = (row (lane k)).toNat ∧ (y 1).val = (col (lane k)).toNat then w else f y := by
    intro l
    induction l with
    | nil => intro f; simp
    | cons k l ih =>
      intro f
      rw [List.foldl_cons, ih]
      have hall : (∀ a, (y a).val = ((idxAt ![row, col] h (lane k)) a).val)
          ↔ ((y 0).val = (row (lane k)).toNat ∧ (y 1).val = (col (lane k)).toNat) := by
        constructor
        · intro hy; exact ⟨hy 0, hy 1⟩
        · rintro ⟨h0, h1⟩ a
          match a with
          | 0 => exact h0
          | 1 => exact h1
      by_cases hl : ∃ k ∈ l, mask (lane k) = 1 ∧ (y 0).val = (row (lane k)).toNat ∧ (y 1).val = (col (lane k)).toNat
      · rw [if_pos hl, if_pos (by obtain ⟨k', hk', hh⟩ := hl; exact ⟨k', List.mem_cons_of_mem _ hk', hh⟩)]
      · rw [if_neg hl]
        by_cases hm : mask (lane k) = 1
        · rw [if_pos hm]
          by_cases hy : (y 0).val = (row (lane k)).toNat ∧ (y 1).val = (col (lane k)).toNat
          · rw [if_pos (hall.mpr hy), if_pos ⟨k, List.mem_cons_self, hm, hy⟩]
          · rw [if_neg (fun e => hy (hall.mp e)), if_neg]
            rintro ⟨k', hk', hh⟩
            rcases List.mem_cons.mp hk' with rfl | hk'
            · exact hy hh.2
            · exact hl ⟨k', hk', hh⟩
        · rw [if_neg hm, if_neg]
          rintro ⟨k', hk', hh⟩
          rcases List.mem_cons.mp hk' with rfl | hk'
          · exact hm hh.1
          · exact hl ⟨k', hk', hh⟩
  have := key (List.finRange 16) f
  simp only [List.mem_finRange, true_and] at this
  rw [← this]
  unfold storeIdx
  refine congrFun (congrArg (fun g => List.foldl g f (List.finRange 16)) ?_) y
  funext g k
  by_cases hm : mask (lane k) = 1
  · rw [if_pos hm, if_pos hm]
    funext j
    by_cases hj : ∀ a : Fin 2, (j a).val = (idxAt (s := S56x1024) ![row, col] h (lane k) a).val
    · exact (if_pos hj).trans (if_pos hj).symm
    · exact (if_neg hj).trans (if_neg hj).symm
  · rw [if_neg hm, if_neg hm]

/-! ## The words the scatter's operands are computed with -/

/-- Which labels lie among the `n` classes from `c` on. -/
abbrev maskV (c n : BitVec 32) (x : IVec S16 32) : IVec S16 1 :=
  andi (cmpi .sge x (broadcast S16 c)) (cmpi .slt x (broadcast S16 (Scalar.addi c n)))
/-- The row of each such label, zero for the others. -/
abbrev rowV (c n : BitVec 32) (x : IVec S16 32) : IVec S16 32 :=
  select (maskV c n x) (subi x (broadcast S16 c)) (broadcast S16 0#32)

theorem bit_and (p q : Bool) : (BitVec.ofBool p &&& BitVec.ofBool q = 1#1) ↔ (p = true ∧ q = true) := by
  cases p <;> cases q <;> decide

theorem toNat_of (n : ℕ) (h : n < 2 ^ 32) : (BitVec.ofNat 32 n).toNat = n := by
  rw [BitVec.toNat_ofNat]; exact Nat.mod_eq_of_lt h

theorem maskV_iff (C n : ℕ) (hC : C + n < 2 ^ 31) (x : IVec S16 32) (i : S16.Idx) :
    maskV (BitVec.ofNat 32 C) (BitVec.ofNat 32 n) x i = 1 ↔ C ≤ (x i).toNat ∧ (x i).toNat < C + n := by
  show BitVec.ofBool (BitVec.sle (BitVec.ofNat 32 C) (x i)) &&& BitVec.ofBool (BitVec.slt (x i) (BitVec.ofNat 32 C + BitVec.ofNat 32 n)) = 1#1 ↔ _
  rw [bit_and, BitVec.sle_iff_toInt_le, BitVec.slt_iff_toInt_lt, ← BitVec.ofNat_add,
    BitVec.toInt_eq_toNat_cond, BitVec.toInt_eq_toNat_cond, BitVec.toInt_eq_toNat_cond,
    toNat_of C (by omega), toNat_of (C + n) (by omega)]
  have := (x i).isLt
  split_ifs <;> omega

theorem rowV_toNat (C n : ℕ) (hC : C + n < 2 ^ 31) (x : IVec S16 32) (i : S16.Idx) :
    (rowV (BitVec.ofNat 32 C) (BitVec.ofNat 32 n) x i).toNat
      = if C ≤ (x i).toNat ∧ (x i).toNat < C + n then (x i).toNat - C else 0 := by
  show (Scalar.select (maskV (BitVec.ofNat 32 C) (BitVec.ofNat 32 n) x i) (x i - BitVec.ofNat 32 C) 0#32).toNat = _
  unfold Scalar.select
  by_cases hm : C ≤ (x i).toNat ∧ (x i).toNat < C + n
  · rw [if_pos ((maskV_iff C n hC x i).mpr hm), if_pos hm, BitVec.toNat_sub, toNat_of C (by omega)]
    have := (x i).isLt
    omega
  · rw [if_neg (fun e => hm ((maskV_iff C n hC x i).mp e)), if_neg hm]; rfl

/-- Every lane of the scatter of group `j`, masked off or not, points inside the block. -/
theorem scat_inb (C n j : ℕ) (hC : C + n < 2 ^ 31) (hn : n ≤ 56) (hj : j < 64) (x : IVec S16 32) (col : IVec S16 32)
    (hcol : ∀ k : Fin 16, (col (lane k)).toNat = 16 * j + k.val) :
    ∀ a i, ((![rowV (BitVec.ofNat 32 C) (BitVec.ofNat 32 n) x, col] : Fin 2 → IVec S16 32) a i).toNat < S56x1024.size a := by
  intro a i
  match a with
  | 0 =>
    show (rowV (BitVec.ofNat 32 C) (BitVec.ofNat 32 n) x i).toNat < 56
    rw [rowV_toNat C n hC]; split_ifs <;> omega
  | 1 =>
    show (col i).toNat < 1024
    have e := hcol (i 0)
    rw [← eq_lane i] at e
    have h16 : (i 0).val < 16 := (i 0).isLt
    omega

/-- The scatter of group `j` is `put`. -/
theorem scat_put (xs : Vec F S1024 .i32) (f : Vec F S56x1024 .f32) (C n j : ℕ) (hC : C + n < 2 ^ 31) (hj : j < 64) (x : IVec S16 32)
    (hx : ∀ k : Fin 16, x (lane k) = xs (ixL (16 * j + k.val) (by omega)))
    (col : IVec S16 32) (hcol : ∀ k : Fin 16, (col (lane k)).toNat = 16 * j + k.val) (w : F .f32)
    (h : ∀ a i, ((![rowV (BitVec.ofNat 32 C) (BitVec.ofNat 32 n) x, col] : Fin 2 → IVec S16 32) a i).toNat < S56x1024.size a) :
    storeIdx (F := F) (e := .f32) (d := ![16]) f ![rowV (BitVec.ofNat 32 C) (BitVec.ofNat 32 n) x, col] (fun _ => w)
      (maskV (BitVec.ofNat 32 C) (BitVec.ofNat 32 n) x) false h = put xs j C n w f := by
  funext y
  rw [storeIdx_const]; unfold put
  refine if_congr ?_ rfl rfl
  constructor
  · rintro ⟨k, hm, h0, h1⟩
    rw [hcol] at h1
    have hm' := (maskV_iff C n hC x _).mp hm
    rw [rowV_toNat C n hC, if_pos hm'] at h0
    have hlab : label xs y = x (lane k) := by
      rw [hx]; exact congrArg xs (ixL_eq _ _ _ h1)
    refine ⟨by omega, by omega, by omega, ?_⟩
    rw [hlab]; omega
  · rintro ⟨h1, h2, h3, h4⟩
    have hk : (y 1).val - 16 * j < 16 := by omega
    have hlab : label xs y = x (lane ⟨(y 1).val - 16 * j, hk⟩) := by
      rw [hx]; exact congrArg xs (ixL_eq _ _ _ (show (y 1).val = 16 * j + ((y 1).val - 16 * j) by omega))
    have hm : C ≤ (x (lane ⟨(y 1).val - 16 * j, hk⟩)).toNat ∧ (x (lane ⟨(y 1).val - 16 * j, hk⟩)).toNat < C + n := by
      rw [← hlab]; omega
    refine ⟨⟨(y 1).val - 16 * j, hk⟩, (maskV_iff C n hC x _).mpr hm, ?_, ?_⟩
    · rw [rowV_toNat C n hC, if_pos hm, ← hlab]; omega
    · rw [hcol]; show (y 1).val = 16 * j + ((y 1).val - 16 * j); omega

/-- The columns of group `j`: the lane numbers, `16 * j` on. -/
theorem col_toNat (j : ℕ) (hj : j < 64) (k : Fin 16) :
    (addi (iota .scVector S16 32 [0] iota_S16_d0_w32_scVector)
      (broadcast S16 (Scalar.muli (Scalar.addi 0#32 (Scalar.muli (BitVec.ofNat 32 j) 1#32)) 16#32)) (lane k)).toNat = 16 * j + k.val := by
  show (BitVec.ofNat 32 (0 * 16 + k.val) + (0#32 + BitVec.ofNat 32 j * 1#32) * 16#32).toNat = _
  simp only [BitVec.toNat_add, BitVec.toNat_mul, BitVec.toNat_ofNat]
  omega

end Cert.Proof.OneHot

end
-- ==== Proof.Step.lean ====
/-
  One group of columns: the steps of the kernel's loops.

  A buffer is held at the contents it reads as (`holds`). A trip of a zeroing loop stores sixty-four pieces of zeros
  over one row; a trip of a scatter loop loads sixteen labels and scatters at them. Each is proved once, for any
  buffer, any block of classes and any group.
-/
module

public import proofs.«01_k».proof.Proof.Hot
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## A buffer at what it reads as -/

section Steps

variable (d : Dev nD) (c : Fin τ.nSC) (j : Fin τ.nSub)

/-- Scratch `B` of a tile, whole, reading as `g`. -/
def holds {s : Shape} {e : EltTy} (B : Memref sig .scVector .vmem s e) (g : Vec F s e) : sProp 𝕄 :=
  iprop(∃ f, ⌜B.view.read (Elt F) f = g⌝ ∗ (B.view.loc (V d c j) ↦[B.view.set]{fullShare} f))

theorem holds_elim {s : Shape} {e : EltTy} (B : Memref sig .scVector .vmem s e) (g : Vec F s e) :
    holds (F := F) d c j B g ⊢ iprop(∃ f, ⌜B.view.read (Elt F) f = g⌝ ∗ (B.view.loc (V d c j) ↦[B.view.set]{fullShare} f)) := .rfl
theorem holds_intro {s : Shape} {e : EltTy} (B : Memref sig .scVector .vmem s e) (f : Buf (Elt F) (B.view.loc (V d c j))) :
    (B.view.loc (V d c j) ↦[B.view.set]{fullShare} f : sProp 𝕄) ⊢ holds (F := F) d c j B (B.view.read (Elt F) f) := by
  unfold holds
  iintro H
  iexists f; isplitr; · ipureintro; rfl
  iexact H

/-- A row's pieces `0 … n - 1` zeroed, the rows above it zero already. -/
def sweep (t n : ℕ) (old : Vec F S56x1024 .f32) : Vec F S56x1024 .f32 :=
  fun y => if (y 0).val < t ∨ ((y 0).val = t ∧ (y 1).val < 16 * n) then zeroF else old y

theorem sweep_zero (t : ℕ) (old : Vec F S56x1024 .f32) : sweep t 0 old = wipe t old := by
  funext y; unfold sweep wipe; exact if_congr (by omega) rfl rfl
theorem sweep_all (t : ℕ) (old : Vec F S56x1024 .f32) : sweep t 64 old = wipe (t + 1) old := by
  funext y; unfold sweep wipe; have := col_lt y; exact if_congr (by omega) rfl rfl

/-- One piece of a zeroing trip: the load's value is dropped, sixteen zeros are stored. -/
theorem zero_step (B : Memref sig .scVector .vmem S56x1024 .f32) (t n : ℕ) (old : Vec F S56x1024 .f32) (off : Fin 2 → ℕ) (hoff : off = ![t, 16 * n])
    {inb} {hl} {w : Vec F S1x16 .f32} {hx} {hm} {α : Type} {Q : α → sProp 𝕄} {k : PUnit → Prog (TpuEff nD τ sig (Elt F) Λ₀ (.scVector c j)) α} (hw : w = fun _ => zeroF)
    (hk : holds (F := F) d c j B (sweep t (n + 1) old) ⊢ wp frame (wpE (defs₀ (F := F)) 𝒱₀ (V d c j) none) Set.univ (k ⟨⟩) Q) :
    holds (F := F) d c j B (sweep t n old)
      ⊢ wp frame (wpE (defs₀ (F := F)) 𝒱₀ (V d c j) none) Set.univ
          (.op (.load B (Rect.unit (s := S56x1024) off S1x16.size inb).toLoadRect hl)
            fun _ => .op (.store B (Rect.unit (s := S56x1024) off S1x16.size inb) w Finset.univ hx hm) k) Q := by
  unfold holds
  iintro ⟨%f, %hf, H⟩
  iapply (wp_load 𝒱₀ (V d c j) none Set.univ (m := B) (S := B.view.set) (B.view.setOn_subset_set _)) $$ H
  iintro H
  iapply (wp_store 𝒱₀ (V d c j) none Set.univ (m := B) (r := Rect.unit (s := S56x1024) off S1x16.size inb) (Mk := Finset.univ) (S := B.view.set)
    (by rw [View.setOn_univ]; exact View.set_slice_subset _ _)) $$ H
  iintro H
  iapply hk
  unfold holds
  iexists _
  isplitr
  rotate_left
  · iexact H
  ipureintro
  funext y
  have hmem : y ∈ (Rect.unit (s := S56x1024) off S1x16.size inb).set ↔ (y 0).val = t ∧ 16 * n ≤ (y 1).val ∧ (y 1).val < 16 * n + 16 := by
    rw [Rect.mem_set_unit]; subst hoff
    constructor
    · intro h; have h0 := h 0; have h1 := h 1
      change t ≤ (y 0).val ∧ (y 0).val < t + 1 at h0
      change 16 * n ≤ (y 1).val ∧ (y 1).val < 16 * n + 16 at h1
      omega
    · rintro ⟨h0, h1, h2⟩ a
      match a with
      | 0 => exact ⟨h0 ▸ le_rfl, show (y 0).val < t + 1 by omega⟩
      | 1 => exact ⟨h1, h2⟩
  by_cases hy : y ∈ (Rect.unit (s := S56x1024) off S1x16.size inb).set
  · obtain ⟨x, hxy⟩ := (Rect.unit (s := S56x1024) off S1x16.size inb).exists_idx_of_mem hy
    have hx2 : y = (Rect.unit (s := S56x1024) off S1x16.size inb).emb x := hxy.symm
    rw [hx2]
    refine (View.read_slice_write_emb _ f _ (Finset.mem_univ x)).trans ?_
    rw [← hx2, hw]
    unfold sweep
    have := hmem.mp hy
    refine (if_pos ?_).symm
    omega
  · refine (View.read_slice_write_of_not_mem _ f _ _ (by rw [Rect.map_emb_univ]; exact hy)).trans ?_
    rw [hf]; unfold sweep
    have hne := mt hmem.mpr hy
    exact if_congr (by omega) rfl rfl

/-- One scatter: its side condition holds, and the buffer reads as `put`. -/
theorem scat_step (B : Memref sig .scVector .vmem S56x1024 .f32) (xs : Vec F S1024 .i32) (g : Vec F S56x1024 .f32) (C n t : ℕ)
    (hC : C + n < 2 ^ 31) (hn : n ≤ 56) (ht : t < 64) (x : IVec S16 32) (hxs : ∀ k : Fin 16, x (lane k) = xs (ixL (16 * t + k.val) (by omega)))
    (w : F .f32) {P : Prop} {dP : Decidable P} {row col : IVec S16 32} {v : FVec F S16 .f32} {mask : IVec S16 1}
    {h : P → ∀ a i, ((![row, col] : Fin 2 → IVec S16 32) a i).toNat < S56x1024.size a} {hs}
    {α : Type} {Q : α → sProp 𝕄} {k : PUnit → Prog (TpuEff nD τ sig (Elt F) Λ₀ (.scVector c j)) α}
    (hcol : ∀ k : Fin 16, (col (lane k)).toNat = 16 * t + k.val)
    (hrow : row = rowV (BitVec.ofNat 32 C) (BitVec.ofNat 32 n) x) (hmask : mask = maskV (BitVec.ofNat 32 C) (BitVec.ofNat 32 n) x) (hv : v = fun _ => w)
    (hP : (∀ a i, ((![row, col] : Fin 2 → IVec S16 32) a i).toNat < S56x1024.size a) → P) :
    holds (F := F) d c j B g
      ⊢ iprop((holds (F := F) d c j B (put xs t C n w g) -∗ wp frame (wpE (defs₀ (F := F)) 𝒱₀ (V d c j) none) Set.univ (k ⟨⟩) Q)
        -∗ wp frame (wpE (defs₀ (F := F)) 𝒱₀ (V d c j) none) Set.univ
            (.op (.assume P dP) fun r => SparseCore.vectorStoreIdx B ![row, col] v mask false (h r.down) hs >>= k) Q) := by
  subst hrow hmask hv
  have hok := scat_inb C n t hC hn ht x col hcol
  unfold holds
  iintro ⟨%f, %hf, H⟩ Hk
  rw [wp_assume_of _ _ _ _ (hP hok)]
  have hset : (B.access (.whole S56x1024)).set = B.view.set := by
    refine (View.set_slice _ _).trans ?_
    rw [Rect.set_whole]; rfl
  have hread : ∀ f, (B.access (.whole S56x1024)).read (Elt F) f = B.view.read (Elt F) f := fun f => by
    funext y
    exact congrArg (B.view.read (Elt F) f) (Rect.emb_whole_apply _ y)
  ihave H := (Entails.of_eq (show (B.view.loc (V d c j) ↦[B.view.set]{fullShare} f : sProp 𝕄)
    = ((B.access (.whole S56x1024)).loc (V d c j) ↦[(B.access (.whole S56x1024)).set]{fullShare} f) by rw [hset])) $$ H
  iapply (SparseCore.wp_vectorStoreIdx 𝒱₀ (V d c j) none Set.univ (base := B)) $$ H
  iintro H
  iapply Hk
  iexists _
  isplitr
  rotate_left
  · ihave H := (Entails.of_eq (show ((B.access (.whole S56x1024)).loc (V d c j) ↦[(B.access (.whole S56x1024)).set]{fullShare} _ : sProp 𝕄)
      = (B.view.loc (V d c j) ↦[B.view.set]{fullShare} _) by rw [hset])) $$ H
    iexact H
  ipureintro
  rw [← hread, View.read_write_univ, hread, hf]
  exact scat_put xs g C n t hC ht x hxs col hcol w _

/-- The sixteen labels a trip loads. -/
theorem label_lane (X : Memref sig .scVector .vmem S1024 .i32) (f : X.view.ty.Contents (Elt F)) (xs : Vec F S1024 .i32) (hf : X.view.read (Elt F) f = xs)
    (t : ℕ) (ht : t < 64) (off : Fin 1 → ℕ) (hoff : off = ![16 * t]) (inb) (k : Fin 16) :
    X.view.readAt (Elt F) (Rect.unit (s := S1024) off S16.size inb).toLoadRect f (lane k) = xs (ixL (16 * t + k.val) (by omega)) := by
  subst hoff
  rw [View.readAt_apply, hf]
  refine congrArg xs (ixL_eq _ _ _ ?_)
  rw [LoadRect.idx_apply]
  show 16 * t + 1 * k.val = _
  omega

/-! ## The loops -/

/-- The labels and a block, held together. -/
def both (X : Memref sig .scVector .vmem S1024 .i32) (xs : Vec F S1024 .i32) (B : Memref sig .scVector .vmem S56x1024 .f32) (g : Vec F S56x1024 .f32) :
    sProp 𝕄 := iprop(holds (F := F) d c j X xs ∗ holds (F := F) d c j B g)

variable (X : Memref sig .scVector .vmem S1024 .i32) (xs : Vec F S1024 .i32) (B : Memref sig .scVector .vmem S56x1024 .f32)

/-- A trip of the first block's loop on a buffer: the labels loaded, the ones scattered. -/
theorem trip₁ (C n t : ℕ) (hC : C + n < 2 ^ 31) (hn : n ≤ 56) {w m : BitVec 32} (hw : w = BitVec.ofNat 32 C)
    (hm : m = BitVec.ofNat 32 n) (ht : t < 64) {off : Fin 1 → ℕ} (hoff : off = ![16 * t]) {inb} {hl}
    {P : IVec S16 32 → Prop} {dP : ∀ x, Decidable (P x)} {row : IVec S16 32 → IVec S16 32} {mask : IVec S16 32 → IVec S16 1} {col : IVec S16 32} {v : FVec F S16 .f32}
    {h : ∀ x, P x → ∀ a i, ((![row x, col] : Fin 2 → IVec S16 32) a i).toNat < S56x1024.size a} {hs}
    (hcol : ∀ k : Fin 16, (col (lane k)).toNat = 16 * t + k.val)
    (hrow : ∀ x, row x = rowV w m x) (hmask : ∀ x, mask x = maskV w m x)
    (hv : v = fun _ => oneF) (hP : ∀ x, (∀ a i, ((![row x, col] : Fin 2 → IVec S16 32) a i).toNat < S56x1024.size a) → P x) :
    both (F := F) d c j X xs B (mix t blank (hot xs C n))
      ⊢ wp frame (wpE (defs₀ (F := F)) 𝒱₀ (V d c j) none) Set.univ
          (.op (.load X (Rect.unit (s := S1024) off S16.size inb).toLoadRect hl) fun (x : Vec F S16 .i32) =>
            .op (.assume (P x) (dP x)) fun r => SparseCore.vectorStoreIdx B ![row x, col] v (mask x) false (h x r.down) hs >>= fun _ => .ret ⟨⟩)
          fun _ : PUnit => both (F := F) d c j X xs B (mix (t + 1) blank (hot xs C n)) := by
  subst hw hm
  unfold both
  iintro ⟨HX, HB⟩
  ihave HX := (holds_elim (F := F) d c j X xs) $$ HX
  icases HX with ⟨%f, %hf, HX⟩
  iapply (wp_load 𝒱₀ (V d c j) none Set.univ (m := X) (S := X.view.set) (X.view.setOn_subset_set _)) $$ HX
  iintro HX
  iapply (scat_step (F := F) d c j B xs _ C n t hC hn ht _ (label_lane X f xs hf t ht off hoff inb) oneF hcol (hrow _) (hmask _) hv (hP _)) $$ HB
  iintro HB
  rw [put_blank, wp_ret]
  imodintro
  isplitl [HX]
  · rw [← hf]; iapply (holds_intro (F := F) d c j X f); iexact HX
  iexact HB

/-- A trip of a later loop: the labels loaded, the previous block's ones taken out, the next one's put in. -/
theorem trip₂ (C n C' n' t : ℕ) (hC : C + n < 2 ^ 31) (hn : n ≤ 56) (hC' : C' + n' < 2 ^ 31) (hn' : n' ≤ 56)
    {w m w' m' : BitVec 32} (hw : w = BitVec.ofNat 32 C) (hm : m = BitVec.ofNat 32 n) (hw' : w' = BitVec.ofNat 32 C') (hm' : m' = BitVec.ofNat 32 n') (ht : t < 64)
    {off : Fin 1 → ℕ} (hoff : off = ![16 * t]) {inb} {hl}
    {P P' : IVec S16 32 → Prop} {dP : ∀ x, Decidable (P x)} {dP' : ∀ x, Decidable (P' x)} {row row' : IVec S16 32 → IVec S16 32} {mask mask' : IVec S16 32 → IVec S16 1} {col : IVec S16 32} {v v' : FVec F S16 .f32}
    {h : ∀ x, P x → ∀ a i, ((![row x, col] : Fin 2 → IVec S16 32) a i).toNat < S56x1024.size a} {hs}
    {h' : ∀ x, P' x → ∀ a i, ((![row' x, col] : Fin 2 → IVec S16 32) a i).toNat < S56x1024.size a} {hs'}
    (hcol : ∀ k : Fin 16, (col (lane k)).toNat = 16 * t + k.val)
    (hrow : ∀ x, row x = rowV w m x) (hmask : ∀ x, mask x = maskV w m x)
    (hrow' : ∀ x, row' x = rowV w' m' x) (hmask' : ∀ x, mask' x = maskV w' m' x)
    (hv : v = fun _ => zeroF) (hv' : v' = fun _ => oneF)
    (hP : ∀ x, (∀ a i, ((![row x, col] : Fin 2 → IVec S16 32) a i).toNat < S56x1024.size a) → P x)
    (hP' : ∀ x, (∀ a i, ((![row' x, col] : Fin 2 → IVec S16 32) a i).toNat < S56x1024.size a) → P' x) :
    both (F := F) d c j X xs B (mix t (hot xs C n) (hot xs C' n'))
      ⊢ wp frame (wpE (defs₀ (F := F)) 𝒱₀ (V d c j) none) Set.univ
          (.op (.load X (Rect.unit (s := S1024) off S16.size inb).toLoadRect hl) fun (x : Vec F S16 .i32) =>
            .op (.assume (P x) (dP x)) fun r => SparseCore.vectorStoreIdx B ![row x, col] v (mask x) false (h x r.down) hs >>= fun _ =>
            .op (.assume (P' x) (dP' x)) fun r' => SparseCore.vectorStoreIdx B ![row' x, col] v' (mask' x) false (h' x r'.down) hs' >>= fun _ => .ret ⟨⟩)
          fun _ : PUnit => both (F := F) d c j X xs B (mix (t + 1) (hot xs C n) (hot xs C' n')) := by
  subst hw hm hw' hm'
  unfold both
  iintro ⟨HX, HB⟩
  ihave HX := (holds_elim (F := F) d c j X xs) $$ HX
  icases HX with ⟨%f, %hf, HX⟩
  iapply (wp_load 𝒱₀ (V d c j) none Set.univ (m := X) (S := X.view.set) (X.view.setOn_subset_set _)) $$ HX
  iintro HX
  iapply (scat_step (F := F) d c j B xs _ C n t hC hn ht _ (label_lane X f xs hf t ht off hoff inb) zeroF hcol (hrow _) (hmask _) hv (hP _)) $$ HB
  iintro HB
  iapply (scat_step (F := F) d c j B xs _ C' n' t hC' hn' ht _ (label_lane X f xs hf t ht off hoff inb) oneF hcol (hrow' _) (hmask' _) hv' (hP' _)) $$ HB
  iintro HB
  rw [put_put, wp_ret]
  imodintro
  isplitl [HX]
  · rw [← hf]; iapply (holds_intro (F := F) d c j X f); iexact HX
  iexact HB

/-- A loop over the sixty-four groups, from its trip. -/
theorem loop_mix (l : Scf.Loop 32) (hok : l.OK) (hl : l.trips = 64) (old new : Vec F S56x1024 .f32)
    (body : Fin l.trips → Unit → Prog (TpuEff nD τ sig (Elt F) Λ₀ (.scVector c j)) Unit)
    (hbody : ∀ (t : Fin l.trips) (ht : t.val < 64), both (F := F) d c j X xs B (mix t.val old new)
      ⊢ wp frame (wpE (defs₀ (F := F)) 𝒱₀ (V d c j) none) Set.univ (body t ⟨⟩) fun _ => both (F := F) d c j X xs B (mix (t.val + 1) old new))
    {α : Type} {Q : α → sProp 𝕄} {k : Unit → Prog (TpuEff nD τ sig (Elt F) Λ₀ (.scVector c j)) α} :
    both (F := F) d c j X xs B old
      ⊢ iprop((both (F := F) d c j X xs B new -∗ wp frame (wpE (defs₀ (F := F)) 𝒱₀ (V d c j) none) Set.univ (k ⟨⟩) Q)
        -∗ wp frame (wpE (defs₀ (F := F)) 𝒱₀ (V d c j) none) Set.univ (Scf.Loop.for l hok ⟨⟩ body >>= k) Q) := by
  iintro H Hk
  iapply (Scf.wp_for_bind frame (wpE (defs₀ (F := F)) 𝒱₀ (V d c j) none) Set.univ l.lb l.ub l.st hok ⟨⟩ body
    (fun n _ => both (F := F) d c j X xs B (mix n old new)) (fun t _ => hbody t (hl ▸ t.isLt))) $$ [H]
  · rw [mix_zero]; iexact H
  iintro %_ H
  rw [show Scf.trips l.lb l.ub l.st = 64 from hl, mix_all]
  iapply Hk; iexact H

/-- A zeroing loop over the fifty-six rows, from its trip. -/
theorem loop_wipe (l : Scf.Loop 32) (hok : l.OK) (hl : l.trips = 56) (old : Vec F S56x1024 .f32)
    (body : Fin l.trips → Unit → Prog (TpuEff nD τ sig (Elt F) Λ₀ (.scVector c j)) Unit)
    (hbody : ∀ (t : Fin l.trips), holds (F := F) d c j B (sweep t.val 0 old)
      ⊢ wp frame (wpE (defs₀ (F := F)) 𝒱₀ (V d c j) none) Set.univ (body t ⟨⟩) fun _ => holds (F := F) d c j B (sweep t.val 64 old))
    {α : Type} {Q : α → sProp 𝕄} {k : Unit → Prog (TpuEff nD τ sig (Elt F) Λ₀ (.scVector c j)) α} :
    holds (F := F) d c j B old
      ⊢ iprop((holds (F := F) d c j B blank -∗ wp frame (wpE (defs₀ (F := F)) 𝒱₀ (V d c j) none) Set.univ (k ⟨⟩) Q)
        -∗ wp frame (wpE (defs₀ (F := F)) 𝒱₀ (V d c j) none) Set.univ (Scf.Loop.for l hok ⟨⟩ body >>= k) Q) := by
  iintro H Hk
  iapply (Scf.wp_for_bind frame (wpE (defs₀ (F := F)) 𝒱₀ (V d c j) none) Set.univ l.lb l.ub l.st hok ⟨⟩ body
    (fun n _ => holds (F := F) d c j B (wipe n old)) (fun t _ => by have h := hbody t; rw [sweep_zero, sweep_all] at h; exact h)) $$ [H]
  · rw [wipe_zero]; iexact H
  iintro %_ H
  rw [show Scf.trips l.lb l.ub l.st = 56 from hl, wipe_all]
  iapply Hk; iexact H

end Steps

end Cert.Proof.OneHot

end
-- ==== Proof.Body.lean ====
/-
  The kernel's eleven loops, each as one step from the block it finds to the block it leaves.

  The two zeroing loops leave zeros; the first scatter on a buffer puts the ones of its block over them; every later
  one turns the block before into the next. The words the program computes its classes with are numerals over the
  tile's half of the classes.
-/
module

public import proofs.«01_k».proof.Proof.Step

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's half of the classes and its group of columns -/

/-- Which half of the classes the tile at `L` fills. -/
abbrev half (L : grid0.Coords) : ℕ := (L 1).val / 8
/-- Which 1024 columns it fills. -/
abbrev grp (L : grid0.Coords) : ℕ := (2 * (L 1).val + (L 0).val) % 16

/-- The word of the half, as the program computes it: the tile's number divided by sixteen, rounded down. -/
def halfWord (L : grid0.Coords) : BitVec 32 :=
  let w := Scalar.addi (Scalar.muli (BitVec.ofNat 32 (L 1).val) 2#32) (BitVec.ofNat 32 (L 0).val)
  let sg : BitVec 32 → BitVec 32 := fun x => Scalar.subi (Scalar.extui (Scalar.cmpi .sgt x 0#32)) (Scalar.extui (Scalar.cmpi .slt x 0#32))
  Scalar.select (Scalar.andi (Scalar.cmpi .ne (sg w) (sg 16#32)) (Scalar.cmpi .ne (Scalar.remsi w 16#32) 0#32))
    (Scalar.subi (Scalar.divsi w 16#32) 1#32) (Scalar.divsi w 16#32)

theorem halfWord_eq : ∀ L : grid0.Coords, halfWord L = BitVec.ofNat 32 (half L) := by decide +kernel
theorem half_le : ∀ L : grid0.Coords, half L ≤ 1 := by decide +kernel
theorem grp_lt (L : grid0.Coords) : grp L < 16 := Nat.mod_lt _ (by decide)
theorem off1_eq : ∀ L : grid0.Coords, k0_off1 L = ![1024 * grp L] := by decide +kernel
theorem off67_eq : ∀ (L : grid0.Coords) (ch : Fin 8), k0_off67 L (BitVec.ofNat 32 (56 * ch.val)) = ![504 * half L + 56 * ch.val, 1024 * grp L] := by decide +kernel
theorem off140_eq : ∀ L : grid0.Coords, k0_off140 L = ![504 * half L + 448, 1024 * grp L] := by decide +kernel
theorem off141_eq : ∀ L : grid0.Coords, k0_off141 L = ![504 * half L + 448, 1024 * grp L] := by decide +kernel
theorem cond1_iff : ∀ L : grid0.Coords, k0_cond1 L = 1#1 ↔ half L = 0 := by decide +kernel
theorem cond2_iff : ∀ L : grid0.Coords, k0_cond2 L = 1#1 ↔ half L = 1 := by decide +kernel

/-- The first class of a block, as a word. -/
theorem word (h k : ℕ) : Scalar.addi (Scalar.muli (BitVec.ofNat 32 h) 504#32) (BitVec.ofNat 32 k) = BitVec.ofNat 32 (504 * h + k) := by
  show BitVec.ofNat 32 h * BitVec.ofNat 32 504 + BitVec.ofNat 32 k = _
  rw [← BitVec.ofNat_mul, ← BitVec.ofNat_add, Nat.mul_comm]

/-- The number of classes of the last block. -/
abbrev lastN (h : ℕ) : ℕ := if h = 0 then 56 else 48
theorem lastN_le (h : ℕ) : lastN h ≤ 56 := by unfold lastN; split_ifs <;> omega
theorem lastWord (h : ℕ) (hh : h ≤ 1) :
    Scalar.select (Scalar.cmpi .eq (BitVec.ofNat 32 h) 0#32) 56#32 48#32 = BitVec.ofNat 32 (lastN h) := by
  rcases Nat.le_one_iff_eq_zero_or_eq_one.mp hh with rfl | rfl <;> decide

theorem iv_word (t : ℕ) (ht : t < 64) (k : Fin 16) :
    (addi (iota .scVector S16 32 [0] iota_S16_d0_w32_scVector)
      (broadcast S16 (Scalar.muli (Scalar.addi 0#32 (Scalar.muli (Scf.iv 0#32 1#32 t) 1#32)) 16#32)) (lane k)).toNat = 16 * t + k.val := by
  have e : Scf.iv 0#32 1#32 t = BitVec.ofNat 32 t := by
    simp [Scf.iv]
  rw [e]; exact col_toNat t ht k

section Trips

variable (d : Dev nD) (L : grid0.Coords)
  (arg2 : Memref sig .scVector .hbm S16384 .i32) (harg2 : arg2.IsWhole) (arg3 : Memref sig .scVector .hbm S1000x16384 .f32)
  (harg3 : arg3.IsWhole) (arg4 : Memref sig .scVector .vmem S1024 .i32) (harg4 : arg4.IsWhole) (arg5 : Memref sig .scVector .vmem S56x1024 .f32)
  (harg5 : arg5.IsWhole) (arg6 : Memref sig .scVector .vmem S56x1024 .f32) (harg6 : arg6.IsWhole)
  (arg7 : DmaSems sig S_) (arg8 : DmaSems sig S_) (v95_r0 : DmaSems sig S_) (v95_r1 : DmaSems sig S_) (v95_r2 : DmaSems sig S_)
variable {h : ℕ} (hh : h ≤ 1) {v28 v34 v45 v51 v69 : BitVec 32} (hv28 : v28 = BitVec.ofNat 32 h)
  {v30 v31 v32 : FVec F S16 .f32} (h30 : v30 = fun _ => zeroF) (h31 : v31 = fun _ => oneF) (h32 : v32 = fun _ => zeroF)
  {v33 : IVec S16 32} (h33 : v33 = iota .scVector S16 32 [0] iota_S16_d0_w32_scVector) (xs : Vec F S1024 .i32)

include h30 in
/-- A row of `arg5` zeroed, piece by piece. -/
theorem zero_t1 (t : Fin k0_t1_loop.trips) (old : Vec F S56x1024 .f32) :
    holds (F := F) d ((L 0).castLE hcore0) ((L 1).castLE hsub0) arg5 (sweep t.val 0 old)
      ⊢ wp frame (wpE (defs₀ (F := F)) 𝒱₀ (V d ((L 0).castLE hcore0) ((L 1).castLE hsub0)) none) Set.univ
          (k0_t1_body (F := F) L arg2 harg2 arg3 harg3 arg4 harg4 arg5 harg5 arg6 harg6 arg7 arg8 v95_r0 v95_r1 v95_r2 v28 v30 v31 v32 v33 t ⟨⟩)
          fun _ => holds (F := F) d ((L 0).castLE hcore0) ((L 1).castLE hsub0) arg5 (sweep t.val 64 old) := by
  subst h30
  unfold k0_t1_body
  simp only [k0_part1_eq_skeleton, k0_part2_eq_skeleton, k0_part3_eq_skeleton, k0_part4_eq_skeleton, k0_part5_eq_skeleton, k0_part1_skel, k0_part2_skel, k0_part3_skel, k0_part4_skel, k0_part5_skel,
    Prog.lift, Prog.bind_op, Prog.bind_ret, Prog.pure_eq_ret]
  iterate 64 refine zero_step d _ _ arg5 t.val _ old _ (ClosedOff.eq.trans rfl) rfl ?_
  rw [wp_ret]
  iintro H
  imodintro
  iexact H

include h30 in
/-- A row of `arg6` zeroed, piece by piece. -/
theorem zero_t3 (t : Fin k0_t3_loop.trips) (old : Vec F S56x1024 .f32) :
    holds (F := F) d ((L 0).castLE hcore0) ((L 1).castLE hsub0) arg6 (sweep t.val 0 old)
      ⊢ wp frame (wpE (defs₀ (F := F)) 𝒱₀ (V d ((L 0).castLE hcore0) ((L 1).castLE hsub0)) none) Set.univ
          (k0_t3_body (F := F) L arg2 harg2 arg3 harg3 arg4 harg4 arg5 harg5 arg6 harg6 arg7 arg8 v95_r0 v95_r1 v95_r2 v28 v30 v31 v32 v33 t ⟨⟩)
          fun _ => holds (F := F) d ((L 0).castLE hcore0) ((L 1).castLE hsub0) arg6 (sweep t.val 64 old) := by
  subst h30
  unfold k0_t3_body
  simp only [k0_part6_eq_skeleton, k0_part7_eq_skeleton, k0_part8_eq_skeleton, k0_part9_eq_skeleton, k0_part10_eq_skeleton, k0_part6_skel, k0_part7_skel, k0_part8_skel, k0_part9_skel, k0_part10_skel,
    Prog.lift, Prog.bind_op, Prog.bind_ret, Prog.pure_eq_ret]
  iterate 64 refine zero_step d _ _ arg6 t.val _ old _ (ClosedOff.eq.trans rfl) rfl ?_
  rw [wp_ret]
  iintro H
  imodintro
  iexact H

/-! The scatter loops: the trip of each, over the words its region reads. -/

variable (hv34 : v34 = Scalar.muli (BitVec.ofNat 32 h) 504#32) (hv45 : v45 = Scalar.addi (Scalar.muli (BitVec.ofNat 32 h) 504#32) 112#32)
  (hv51 : v51 = Scalar.addi (Scalar.muli (BitVec.ofNat 32 h) 504#32) 168#32) (hv69 : v69 = Scalar.addi (Scalar.muli (BitVec.ofNat 32 h) 504#32) 336#32)

include hh hv28 h31 h33 in
theorem trip_t2 (t : Fin k0_t2_loop.trips) (ht : t.val < 64) :
    both (F := F) d ((L 0).castLE hcore0) ((L 1).castLE hsub0) arg4 xs arg5 (mix t.val blank (hot xs (504 * h + 0) 56))
      ⊢ wp frame (wpE (defs₀ (F := F)) 𝒱₀ (V d ((L 0).castLE hcore0) ((L 1).castLE hsub0)) none) Set.univ
          (k0_t2_body (F := F) L arg2 harg2 arg3 harg3 arg4 harg4 arg5 harg5 arg6 harg6 arg7 arg8 v95_r0 v95_r1 v95_r2 v28 v30 v31 v32 v33 t ⟨⟩)
          fun _ => both (F := F) d ((L 0).castLE hcore0) ((L 1).castLE hsub0) arg4 xs arg5 (mix (t.val + 1) blank (hot xs (504 * h + 0) 56)) := by
  subst hv28 h33
  exact trip₁ d _ _ arg4 xs arg5 _ 56 t.val (by omega) (by omega) (word h 0) rfl ht (k0_off66_eq t)
    (iv_word t.val ht) (fun _ => rfl) (fun _ => rfl) h31 (fun _ e => e)

include hh hv28 h31 h33 in
theorem trip_t4 (t : Fin k0_t4_loop.trips) (ht : t.val < 64) :
    both (F := F) d ((L 0).castLE hcore0) ((L 1).castLE hsub0) arg4 xs arg6 (mix t.val blank (hot xs (504 * h + 56) 56))
      ⊢ wp frame (wpE (defs₀ (F := F)) 𝒱₀ (V d ((L 0).castLE hcore0) ((L 1).castLE hsub0)) none) Set.univ
          (k0_t4_body (F := F) L arg2 harg2 arg3 harg3 arg4 harg4 arg5 harg5 arg6 harg6 arg7 arg8 v95_r0 v95_r1 v95_r2 v28 v30 v31 v32 v33 t ⟨⟩)
          fun _ => both (F := F) d ((L 0).castLE hcore0) ((L 1).castLE hsub0) arg4 xs arg6 (mix (t.val + 1) blank (hot xs (504 * h + 56) 56)) := by
  subst hv28 h33
  exact trip₁ d _ _ arg4 xs arg6 _ 56 t.val (by omega) (by omega) (word h 56) rfl ht (k0_off132_eq t)
    (iv_word t.val ht) (fun _ => rfl) (fun _ => rfl) h31 (fun _ e => e)

include hh hv28 h31 h32 h33 in
theorem trip_t5 (t : Fin k0_t5_loop.trips) (ht : t.val < 64) :
    both (F := F) d ((L 0).castLE hcore0) ((L 1).castLE hsub0) arg4 xs arg5 (mix t.val (hot xs (504 * h + 0) 56) (hot xs (504 * h + 112) 56))
      ⊢ wp frame (wpE (defs₀ (F := F)) 𝒱₀ (V d ((L 0).castLE hcore0) ((L 1).castLE hsub0)) none) Set.univ
          (k0_t5_body (F := F) L arg2 harg2 arg3 harg3 arg4 harg4 arg5 harg5 arg6 harg6 arg7 arg8 v95_r0 v95_r1 v95_r2 v28 v30 v31 v32 v33 t ⟨⟩)
          fun _ => both (F := F) d ((L 0).castLE hcore0) ((L 1).castLE hsub0) arg4 xs arg5 (mix (t.val + 1) (hot xs (504 * h + 0) 56) (hot xs (504 * h + 112) 56)) := by
  subst hv28 h33
  exact trip₂ d _ _ arg4 xs arg5 _ 56 _ 56 t.val (by omega) (by omega) (by omega) (by omega) (word h 0) rfl (word h 112) rfl ht (k0_off133_eq t)
    (iv_word t.val ht) (fun _ => rfl) (fun _ => rfl) (fun _ => rfl) (fun _ => rfl) h32 h31 (fun _ e => e) (fun _ e => e)

include hh hv28 h31 h32 h33 in
theorem trip_t6 (t : Fin k0_t6_loop.trips) (ht : t.val < 64) :
    both (F := F) d ((L 0).castLE hcore0) ((L 1).castLE hsub0) arg4 xs arg6 (mix t.val (hot xs (504 * h + 56) 56) (hot xs (504 * h + 168) 56))
      ⊢ wp frame (wpE (defs₀ (F := F)) 𝒱₀ (V d ((L 0).castLE hcore0) ((L 1).castLE hsub0)) none) Set.univ
          (k0_t6_body (F := F) L arg2 harg2 arg3 harg3 arg4 harg4 arg5 harg5 arg6 harg6 arg7 arg8 v95_r0 v95_r1 v95_r2 v28 v30 v31 v32 v33 t ⟨⟩)
          fun _ => both (F := F) d ((L 0).castLE hcore0) ((L 1).castLE hsub0) arg4 xs arg6 (mix (t.val + 1) (hot xs (504 * h + 56) 56) (hot xs (504 * h + 168) 56)) := by
  subst hv28 h33
  exact trip₂ d _ _ arg4 xs arg6 _ 56 _ 56 t.val (by omega) (by omega) (by omega) (by omega) (word h 56) rfl (word h 168) rfl ht (k0_off134_eq t)
    (iv_word t.val ht) (fun _ => rfl) (fun _ => rfl) (fun _ => rfl) (fun _ => rfl) h32 h31 (fun _ e => e) (fun _ e => e)

include hh hv34 hv45 h31 h32 h33 in
theorem trip_t7 (t : Fin k0_t7_loop.trips) (ht : t.val < 64) :
    both (F := F) d ((L 0).castLE hcore0) ((L 1).castLE hsub0) arg4 xs arg5 (mix t.val (hot xs (504 * h + 112) 56) (hot xs (504 * h + 224) 56))
      ⊢ wp frame (wpE (defs₀ (F := F)) 𝒱₀ (V d ((L 0).castLE hcore0) ((L 1).castLE hsub0)) none) Set.univ
          (k0_t7_body (F := F) L arg2 harg2 arg3 harg3 arg4 harg4 arg5 harg5 arg6 harg6 arg7 arg8 v95_r0 v95_r1 v95_r2 v31 v32 v33 v34 v45 v51 t ⟨⟩)
          fun _ => both (F := F) d ((L 0).castLE hcore0) ((L 1).castLE hsub0) arg4 xs arg5 (mix (t.val + 1) (hot xs (504 * h + 112) 56) (hot xs (504 * h + 224) 56)) := by
  subst hv34 hv45 h33
  exact trip₂ d _ _ arg4 xs arg5 _ 56 _ 56 t.val (by omega) (by omega) (by omega) (by omega) (word h 112) rfl (word h 224) rfl ht (k0_off135_eq t)
    (iv_word t.val ht) (fun _ => rfl) (fun _ => rfl) (fun _ => rfl) (fun _ => rfl) h32 h31 (fun _ e => e) (fun _ e => e)

include hh hv34 hv51 h31 h32 h33 in
theorem trip_t8 (t : Fin k0_t8_loop.trips) (ht : t.val < 64) :
    both (F := F) d ((L 0).castLE hcore0) ((L 1).castLE hsub0) arg4 xs arg6 (mix t.val (hot xs (504 * h + 168) 56) (hot xs (504 * h + 280) 56))
      ⊢ wp frame (wpE (defs₀ (F := F)) 𝒱₀ (V d ((L 0).castLE hcore0) ((L 1).castLE hsub0)) none) Set.univ
          (k0_t8_body (F := F) L arg2 harg2 arg3 harg3 arg4 harg4 arg5 harg5 arg6 harg6 arg7 arg8 v95_r0 v95_r1 v95_r2 v31 v32 v33 v34 v45 v51 t ⟨⟩)
          fun _ => both (F := F) d ((L 0).castLE hcore0) ((L 1).castLE hsub0) arg4 xs arg6 (mix (t.val + 1) (hot xs (504 * h + 168) 56) (hot xs (504 * h + 280) 56)) := by
  subst hv34 hv51 h33
  exact trip₂ d _ _ arg4 xs arg6 _ 56 _ 56 t.val (by omega) (by omega) (by omega) (by omega) (word h 168) rfl (word h 280) rfl ht (k0_off136_eq t)
    (iv_word t.val ht) (fun _ => rfl) (fun _ => rfl) (fun _ => rfl) (fun _ => rfl) h32 h31 (fun _ e => e) (fun _ e => e)

include hh hv34 h31 h32 h33 in
theorem trip_t9 (t : Fin k0_t9_loop.trips) (ht : t.val < 64) :
    both (F := F) d ((L 0).castLE hcore0) ((L 1).castLE hsub0) arg4 xs arg5 (mix t.val (hot xs (504 * h + 224) 56) (hot xs (504 * h + 336) 56))
      ⊢ wp frame (wpE (defs₀ (F := F)) 𝒱₀ (V d ((L 0).castLE hcore0) ((L 1).castLE hsub0)) none) Set.univ
          (k0_t9_body (F := F) L arg2 harg2 arg3 harg3 arg4 harg4 arg5 harg5 arg6 harg6 arg7 arg8 v95_r0 v95_r1 v95_r2 v31 v32 v33 v34 v45 v51 t ⟨⟩)
          fun _ => both (F := F) d ((L 0).castLE hcore0) ((L 1).castLE hsub0) arg4 xs arg5 (mix (t.val + 1) (hot xs (504 * h + 224) 56) (hot xs (504 * h + 336) 56)) := by
  subst hv34 h33
  exact trip₂ d _ _ arg4 xs arg5 _ 56 _ 56 t.val (by omega) (by omega) (by omega) (by omega) (word h 224) rfl (word h 336) rfl ht (k0_off137_eq t)
    (iv_word t.val ht) (fun _ => rfl) (fun _ => rfl) (fun _ => rfl) (fun _ => rfl) h32 h31 (fun _ e => e) (fun _ e => e)

include hh hv34 h31 h32 h33 in
theorem trip_t10 (t : Fin k0_t10_loop.trips) (ht : t.val < 64) :
    both (F := F) d ((L 0).castLE hcore0) ((L 1).castLE hsub0) arg4 xs arg6 (mix t.val (hot xs (504 * h + 280) 56) (hot xs (504 * h + 392) 56))
      ⊢ wp frame (wpE (defs₀ (F := F)) 𝒱₀ (V d ((L 0).castLE hcore0) ((L 1).castLE hsub0)) none) Set.univ
          (k0_t10_body (F := F) L arg2 harg2 arg3 harg3 arg4 harg4 arg5 harg5 arg6 harg6 arg7 arg8 v95_r0 v95_r1 v95_r2 v31 v32 v33 v34 v45 v51 t ⟨⟩)
          fun _ => both (F := F) d ((L 0).castLE hcore0) ((L 1).castLE hsub0) arg4 xs arg6 (mix (t.val + 1) (hot xs (504 * h + 280) 56) (hot xs (504 * h + 392) 56)) := by
  subst hv34 h33
  exact trip₂ d _ _ arg4 xs arg6 _ 56 _ 56 t.val (by omega) (by omega) (by omega) (by omega) (word h 280) rfl (word h 392) rfl ht (k0_off138_eq t)
    (iv_word t.val ht) (fun _ => rfl) (fun _ => rfl) (fun _ => rfl) (fun _ => rfl) h32 h31 (fun _ e => e) (fun _ e => e)

include hh hv28 hv34 hv69 h31 h32 h33 in
theorem trip_t11 (t : Fin k0_t11_loop.trips) (ht : t.val < 64) :
    both (F := F) d ((L 0).castLE hcore0) ((L 1).castLE hsub0) arg4 xs arg5 (mix t.val (hot xs (504 * h + 336) 56) (hot xs (504 * h + 448) (lastN h)))
      ⊢ wp frame (wpE (defs₀ (F := F)) 𝒱₀ (V d ((L 0).castLE hcore0) ((L 1).castLE hsub0)) none) Set.univ
          (k0_t11_body (F := F) L arg2 harg2 arg3 harg3 arg4 harg4 arg5 harg5 arg6 harg6 arg7 arg8 v95_r0 v95_r1 v95_r2 v28 v31 v32 v33 v34 v69 t ⟨⟩)
          fun _ => both (F := F) d ((L 0).castLE hcore0) ((L 1).castLE hsub0) arg4 xs arg5 (mix (t.val + 1) (hot xs (504 * h + 336) 56) (hot xs (504 * h + 448) (lastN h))) := by
  subst hv28 hv34 hv69 h33
  exact trip₂ d _ _ arg4 xs arg5 _ 56 _ (lastN h) t.val (by omega) (by omega) (by have := lastN_le h; omega) (lastN_le h) (word h 336) rfl (word h 448) (lastWord h hh) ht (k0_off139_eq t)
    (iv_word t.val ht) (fun _ => rfl) (fun _ => rfl) (fun _ => rfl) (fun _ => rfl) h32 h31 (fun _ e => e) (fun _ e => e)

end Trips

end Cert.Proof.OneHot

end
-- ==== Proof.Move.lean ====
/-
  The kernel's copies: what the output holds, which part of it each block lands in, and the two halves of a transfer.

  A block of labels' ones, copied to its rows and columns of the output, leaves there what the whole output is to
  hold (`onehot`); a transfer in flight delivers exactly that, and gives the buffer back at what it read as.
-/
module

public import proofs.«01_k».proof.Proof.Body

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The output -/

/-- Index `n` of the label array. -/
def ixX (n : ℕ) (h : n < 16384) : S16384.Idx := fun a => ⟨n, by rw [Fin.eq_zero a]; exact h⟩
theorem ixX_eq (x : S16384.Idx) (n : ℕ) (h : n < 16384) (e : (x 0).val = n) : x = ixX n h := by
  funext a; apply Fin.ext; rw [Fin.eq_zero a]; exact e

theorem out_row_lt (y : S1000x16384.Idx) : (y 0).val < 1000 := (y 0).isLt
theorem out_col_lt (y : S1000x16384.Idx) : (y 1).val < 16384 := (y 1).isLt

/-- The whole output: one where the column's label is the row. -/
def onehot (x : Vec F S16384 .i32) : Vec F S1000x16384 .f32 :=
  fun y => if (x (ixX (y 1).val (out_col_lt y))).toNat = (y 0).val then oneF else zeroF

/-- The 1024 labels of group `g`. -/
def labels (x : Vec F S16384 .i32) (g : ℕ) (hg : g < 16) : Vec F S1024 .i32 :=
  fun i => x (ixX (1024 * g + (i 0).val) (by have h : (i 0).val < 1024 := (i 0).isLt; omega))

/-- `n` rows from `C` on of the 1024 columns of group `g`. -/
def box (C n g : ℕ) : Finset S1000x16384.Idx :=
  Finset.univ.filter fun y => (C ≤ (y 0).val ∧ (y 0).val < C + n) ∧ (y 1).val / 1024 = g

/-- The labels and the output, as a tile's program names them. -/
abbrev xM : Memref sig .scVector .hbm S16384 .i32 := Memref.whole main_arg0_scv
abbrev vM : Memref sig .scVector .hbm S1000x16384 .f32 := Memref.whole main_v0_scv

theorem unit_set (C n g : ℕ) (off size : Fin 2 → ℕ) (inb) (hoff : off = ![C, 1024 * g]) (hsize : size = ![n, 1024]) :
    (Rect.unit (s := S1000x16384) off size inb).set = box C n g := by
  subst hoff hsize
  ext y
  rw [Rect.mem_set_unit]
  unfold box
  rw [Finset.mem_filter]
  constructor
  · intro h; have h0 := h 0; have h1 := h 1
    change C ≤ (y 0).val ∧ (y 0).val < C + n at h0
    change 1024 * g ≤ (y 1).val ∧ (y 1).val < 1024 * g + 1024 at h1
    exact ⟨Finset.mem_univ _, h0, by omega⟩
  · rintro ⟨-, h0, h1⟩ a
    match a with
    | 0 => exact h0
    | 1 => exact (by omega : 1024 * g ≤ (y 1).val ∧ (y 1).val < 1024 * g + 1024)

/-- A block landed in its rows and columns is the output there. -/
theorem landed (x : Vec F S16384 .i32) (C n g : ℕ) (hg : g < 16) (off size : Fin 2 → ℕ) (inb) (hoff : off = ![C, 1024 * g]) (hsize : size = ![n, 1024])
    (f : vM.view.ty.Contents (Elt F)) (w : (Rect.unit (s := S1000x16384) off size inb).shape.Idx → Elt F .f32)
    (hw : ∀ (y : (Rect.unit (s := S1000x16384) off size inb).shape.Idx) (h : (y 1).val < 1024),
      w y = if (labels x g hg (ixL (y 1).val h)).toNat = C + (y 0).val then oneF else zeroF) :
    ∀ i ∈ (vM.slice (Rect.unit (s := S1000x16384) off size inb) (fun _ => rfl)).view.set,
      (vM.slice (Rect.unit (s := S1000x16384) off size inb) (fun _ => rfl)).view.write (Elt F) f w Finset.univ i = onehot x i := by
  subst hoff hsize
  intro i hi
  obtain ⟨y, -, rfl⟩ := Finset.mem_map.mp hi
  refine (View.write_emb_of_mem _ _ (Finset.mem_univ y)).trans ?_
  have h1 : (y 1).val < 1024 := (y 1).isLt
  refine (hw y h1).trans ?_
  unfold onehot labels
  refine if_congr ?_ rfl rfl
  have e0 : (((Rect.unit (s := S1000x16384) ![C, 1024 * g] ![n, 1024] inb).emb y) 0).val = C + 1 * (y 0).val := rfl
  have e1 : (((Rect.unit (s := S1000x16384) ![C, 1024 * g] ![n, 1024] inb).emb y) 1).val = 1024 * g + 1 * (y 1).val := rfl
  have ex : ixX (1024 * g + (y 1).val) (by omega)
      = ixX (((Rect.unit (s := S1000x16384) ![C, 1024 * g] ![n, 1024] inb).emb y) 1).val (out_col_lt _) :=
    ixX_eq _ _ _ (by rw [e1]; show 1024 * g + (y 1).val = _; omega)
  show (x (ixX (1024 * g + (y 1).val) _)).toNat = C + (y 0).val ↔ (x (ixX (((Rect.unit (s := S1000x16384) ![C, 1024 * g] ![n, 1024] inb).emb y) 1).val _)).toNat
    = (((Rect.unit (s := S1000x16384) ![C, 1024 * g] ![n, 1024] inb).emb y) 0).val
  rw [e0, ← ex]; omega

/-! ## The two halves of a transfer -/

section Copies

variable (d : Dev nD) (c : Fin τ.nSC) (j : Fin τ.nSub)

/-- What the tile owes, its waits so far among those it began with or its own. -/
def owing (O : CellTallies nD τ sig (HIx 1)) (W : Waits sig (HIx 1)) : sProp 𝕄 :=
  iprop(∃ W', ⌜∀ p ∈ W', p ∈ W ∨ p.2 = none⌝ ∗ owes (V d c j) O W')

/-- A transfer of a tile in flight, delivering `R`. -/
abbrev flying (sm : DmaSem sig) (N : ℕ) (R : sProp 𝕄) : sProp 𝕄 :=
  Transfers.Flight countersEmb (V d c j) (.dma sm) (none : HIx 1) N R

/-- A buffer sent to part of the output: in flight, to deliver that part at the given contents and the buffer back. -/
theorem send {s : Shape} (B : Memref sig .scVector .vmem s .f32) (P : Memref sig .scVector .hbm s .f32) (sm : DmaSem sig) (hs : 0 < s.numel)
    (g : Vec F s .f32) (f G : Buf (Elt F) (P.view.loc (V d c j))) (hG : ∀ i ∈ P.view.set, P.view.write (Elt F) f g Finset.univ i = G i)
    {hb hp ht} {α : Type} {Q : α → sProp 𝕄} {k : PUnit → Prog (TpuEff nD τ sig (Elt F) Λ₀ (.scVector c j)) α} :
    iprop(holds (F := F) d c j B g ∗ (P.view.loc (V d c j) ↦[P.view.set]{fullShare} f) ∗ semVal (V d c j, .dma sm) 0)
      ⊢ iprop((flying d c j sm P.view.dmaCredit iprop((P.view.loc (V d c j) ↦[P.view.set]{fullShare} G) ∗ holds (F := F) d c j B g)
          -∗ wp frame (wpE (defs₀ (F := F)) 𝒱₀ (V d c j) none) Set.univ (k ⟨⟩) Q)
        -∗ wp frame (wpE (defs₀ (F := F)) 𝒱₀ (V d c j) none) Set.univ (.op (.enqueueDma B (.here P) (.dma sm) hb hp ht) k) Q) := by
  iintro ⟨HB, HP, Hs⟩ Hk
  ihave HB := (holds_elim (F := F) d c j B g) $$ HB
  icases HB with ⟨%b, %hbg, HB⟩
  iapply (Transfers.wp_dmaLocal countersEmb 𝒱₀ (V d c j) none (none : HIx 1) P.view.dmaCredit rfl (View.amount_pos _ (.dma sm) hs) subset_rfl) $$ [HB HP Hs]
  · isplitl [HB]; · iexact HB
    isplitl [HP] <;> iassumption
  iintro Hf
  iapply Hk
  have hm : (iprop((P.view.loc (V d c j) ↦[P.view.set]{fullShare} (P.view.write (Elt F) f (ReadAs.same.apply (B.view.read (Elt F) b)) Finset.univ))
        ∗ (B.view.loc (V d c j) ↦[B.view.set]{fullShare} b)) : sProp 𝕄)
      ⊢ iprop((P.view.loc (V d c j) ↦[P.view.set]{fullShare} G) ∗ holds (F := F) d c j B g) := by
    iintro ⟨HP, HB⟩
    isplitl [HP]
    · iapply (Entails.of_eq (pointsTo_congr (ℓ := P.view.loc (V d c j)) (q := fullShare) (f := P.view.write (Elt F) f (ReadAs.same.apply (B.view.read (Elt F) b)) Finset.univ)
        (g := G) (I := P.view.set) (by rw [hbg]; exact hG))) $$ HP
    · rw [← hbg]; iapply (holds_intro (F := F) d c j B b); iexact HB
  iapply (Transfers.Flight_mono countersEmb (V d c j) hm) $$ Hf

/-- A transfer waited for: what it delivers, its semaphore at zero again. -/
theorem collect {s : Shape} {e : EltTy} {sp sp' : Space} (A : Memref sig .scVector sp s e) (P : Memref sig .scVector sp' s e) (sm : DmaSem sig) (R : sProp 𝕄)
    (O : CellTallies nD τ sig (HIx 1)) (W : Waits sig (HIx 1)) (N : ℕ) (hN : P.view.dmaCredit = N)
    {ha hp} {α : Type} {Q : α → sProp 𝕄} {k : PUnit → Prog (TpuEff nD τ sig (Elt F) Λ₀ (.scVector c j)) α} :
    iprop(Transfers.MayWaits (V d c j) (none : HIx 1) O ∗ flying d c j sm N R ∗ owing (F := F) d c j O W)
      ⊢ iprop((iprop(R ∗ semVal (V d c j, .dma sm) 0 ∗ owing (F := F) d c j O W)
          -∗ wp frame (wpE (defs₀ (F := F)) 𝒱₀ (V d c j) none) Set.univ (k ⟨⟩) Q)
        -∗ wp frame (wpE (defs₀ (F := F)) 𝒱₀ (V d c j) none) Set.univ (.op (.waitDma2 sm A P ha hp) k) Q) := by
  unfold owing
  iintro ⟨Hmw, Hf, %W', %hW', HO⟩ Hk
  iapply (Transfers.wp_waitLocalO countersEmb 𝒱₀ (V d c j) none (none : HIx 1) hN (O := O) (W := W')) $$ [Hf HO Hmw]
  · isplitl [Hf]; · iexact Hf
    isplitl [HO]; · iexact HO
    iapply (Transfers.MayWaits.elim (SemLoc.dma sm)) $$ Hmw
  iintro ⟨HR, Hs, HO⟩
  iapply Hk
  isplitl [HR]; · iexact HR
  isplitl [Hs]; · iexact Hs
  iexists _; isplitr
  rotate_left
  · iexact HO
  ipureintro; intro p hp
  rcases Finset.mem_insert.mp hp with hp | hp
  · exact .inr (hp ▸ rfl)
  · exact hW' p hp

end Copies

end Cert.Proof.OneHot

end
-- ==== Proof.Tile.lean ====
/-
  One tile's run: its labels fetched, its nine blocks built and sent, every part of its output at what it is to hold.
-/
module

public import proofs.«01_k».proof.Proof.Move

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

/-- The tile at `L`: its SparseCore and its place there. -/
abbrev cV : Fin τ.nSC := (L 0).castLE hcore0
abbrev jV : Fin τ.nSub := (L 1).castLE hsub0

/-- The tile's scratch: the labels and the two blocks. -/
abbrev sX : Memref sig .scVector .vmem S1024 .i32 := Memref.whole cc0_scratch0
abbrev sA : Memref sig .scVector .vmem S56x1024 .f32 := Memref.whole cc0_scratch1
abbrev sB : Memref sig .scVector .vmem S56x1024 .f32 := Memref.whole cc0_scratch2

/-- Part of the tile's output: `n` rows from the tile's row `k` on. -/
def piece (k n : ℕ) (f : Vec F S1000x16384 .f32) : sProp 𝕄 :=
  vM.view.loc (V d (cV L) (jV L)) ↦[box (504 * half L + k) n (grp L)]{fullShare} f

/-- The tile's output. -/
def tileSet : Finset S1000x16384.Idx :=
  Finset.univ.filter fun y => (y 0).val / 504 = half L ∧ (y 1).val / 1024 = grp L

/-- The rows of block `ch`. -/
abbrev rowsOf (ch : Fin 9) : ℕ := if ch.val < 8 then 56 else lastN (half L)

theorem tileSet_eq : tileSet L = (Finset.univ : Finset (Fin 9)).biUnion fun ch => box (504 * half L + 56 * ch.val) (rowsOf L ch) (grp L) := by
  have hh := half_le L
  ext y
  have hy := out_row_lt y
  unfold tileSet box
  simp only [Finset.mem_filter, Finset.mem_biUnion, Finset.mem_univ, true_and]
  constructor
  · rintro ⟨h0, h1⟩
    refine ⟨⟨((y 0).val - 504 * half L) / 56, by omega⟩, ?_, h1⟩
    unfold rowsOf lastN
    dsimp only
    split_ifs <;> omega
  · rintro ⟨ch, h0, h1⟩
    refine ⟨?_, h1⟩
    have := ch.isLt
    unfold rowsOf lastN at h0
    split_ifs at h0 <;> omega

theorem pieces_disjoint (ch ch' : Fin 9) (hne : ch ≠ ch') :
    Disjoint (box (504 * half L + 56 * ch.val) (rowsOf L ch) (grp L)) (box (504 * half L + 56 * ch'.val) (rowsOf L ch') (grp L)) := by
  rw [Finset.disjoint_left]
  unfold box rowsOf lastN
  simp only [Finset.mem_filter, Finset.mem_univ, true_and]
  rintro y ⟨h0, -⟩ ⟨h1, -⟩
  have : ch.val ≠ ch'.val := fun e => hne (Fin.ext e)
  split_ifs at h0 h1 <;> omega

/-- The tile's output as its nine parts. -/
theorem pieces (f : Vec F S1000x16384 .f32) :
    (vM.view.loc (V d (cV L) (jV L)) ↦[tileSet L]{fullShare} f : sProp 𝕄)
      = iprop(piece d L 0 56 f ∗ piece d L 56 56 f ∗ piece d L 112 56 f ∗ piece d L 168 56 f ∗ piece d L 224 56 f ∗ piece d L 280 56 f
          ∗ piece d L 336 56 f ∗ piece d L 392 56 f ∗ piece d L 448 (lastN (half L)) f) := by
  rw [tileSet_eq]
  refine (pointsTo_biUnion (ℓ := vM.view.loc (V d (cV L) (jV L))) (q := fullShare) (f := f) Finset.univ
    (fun ch : Fin 9 => box (504 * half L + 56 * ch.val) (rowsOf L ch) (grp L)) fun ch _ ch' _ h => pieces_disjoint L ch ch' h).trans ?_
  rw [show (Finset.univ : Finset (Fin 9)) = {0, 1, 2, 3, 4, 5, 6, 7, 8} from by decide]
  iterate 8 rw [SparseCore.bigSep_insert' (by decide)]
  rw [bigSep_singleton]
  rfl

variable (x : Vec F S16384 .i32)

/-- The tile's labels. -/
abbrev mine : Vec F S1024 .i32 := labels x (grp L) (grp_lt L)

theorem mine_read : (xM.slice (Rect.unit (s := S16384) (k0_off1 L) S1024.size (k0_off1_inb L)) (fun _ => rfl)).view.read (Elt F) x = mine L x := by
  funext i
  rw [View.read_apply]
  refine congrArg x (ixX_eq _ _ _ ?_)
  refine (congrArg (· + 1 * (i 0).val) (congrFun (off1_eq L) 0)).trans ?_
  show 1024 * grp L + 1 * (i 0).val = _
  omega

/-- A block of 56 rows sent to its part of the output. -/
theorem send_block (B : Memref sig .scVector .vmem S56x1024 .f32) (k : ℕ) (off : Fin 2 → ℕ) (hoff : off = ![504 * half L + k, 1024 * grp L]) (inb)
    (sm : DmaSem sig) (f : Vec F S1000x16384 .f32)
    {hb hp ht} {α : Type} {Q : α → sProp 𝕄} {kk : PUnit → Prog (TpuEff nD τ sig (Elt F) Λ₀ (.scVector (cV L) (jV L))) α} :
    iprop(holds (F := F) d (cV L) (jV L) B (hot (mine L x) (504 * half L + k) 56) ∗ piece d L k 56 f ∗ semVal (V d (cV L) (jV L), .dma sm) 0)
      ⊢ iprop((flying d (cV L) (jV L) sm (vM.slice (Rect.unit (s := S1000x16384) off S56x1024.size inb) (fun _ => rfl)).view.dmaCredit
            iprop(piece d L k 56 (onehot x) ∗ holds (F := F) d (cV L) (jV L) B (hot (mine L x) (504 * half L + k) 56))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.enqueueDma B (.here (vM.slice (Rect.unit (s := S1000x16384) off S56x1024.size inb) (fun _ => rfl))) (.dma sm) hb hp ht) kk) Q) := by
  have hset : (vM.slice (Rect.unit (s := S1000x16384) off S56x1024.size inb) (fun _ => rfl)).view.set = box (504 * half L + k) 56 (grp L) :=
    (View.set_slice_whole _ _).trans (unit_set _ _ _ off S56x1024.size inb hoff (by decide))
  have hG := landed x (504 * half L + k) 56 (grp L) (grp_lt L) off S56x1024.size inb hoff (by decide) f (hot (mine L x) (504 * half L + k) 56)
    (fun y h => by unfold hot; exact if_congr (and_iff_right (row_lt y)) rfl rfl)
  have key := send (F := F) d (cV L) (jV L) B (vM.slice (Rect.unit (s := S1000x16384) off S56x1024.size inb) (fun _ => rfl)) sm (by decide)
    (hot (mine L x) (504 * half L + k) 56) f (onehot x) hG (hb := hb) (hp := hp) (ht := ht) (Q := Q) (k := kk)
  rw [hset] at key
  exact key

/-- The labels fetched: copied from the array, the copy waited for. -/
theorem fetch (q : PosShare TreeShare) (O : CellTallies nD τ sig (HIx 1)) (W : Waits sig (HIx 1)) (sm : DmaSem sig)
    {ha hb ht ha' hb'} {α : Type} {Q : α → sProp 𝕄} {k : PUnit → Prog (TpuEff nD τ sig (Elt F) Λ₀ (.scVector (cV L) (jV L))) α} :
    iprop(Transfers.MayWaits (V d (cV L) (jV L)) (none : HIx 1) O ∗ (xM.view.loc (V d (cV L) (jV L)) ↦{q} x)
        ∗ (∃ f, sX.view.loc (V d (cV L) (jV L)) ↦[sX.view.set]{fullShare} f) ∗ semVal (V d (cV L) (jV L), .dma sm) 0 ∗ owing (F := F) d (cV L) (jV L) O W)
      ⊢ iprop((iprop((xM.view.loc (V d (cV L) (jV L)) ↦{q} x) ∗ holds (F := F) d (cV L) (jV L) sX (mine L x)
            ∗ semVal (V d (cV L) (jV L), .dma sm) 0 ∗ owing (F := F) d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (.op (.enqueueDma (xM.slice (Rect.unit (s := S16384) (k0_off1 L) S1024.size (k0_off1_inb L)) (fun _ => rfl)) (.here sX) (.dma sm) ha hb ht)
              fun _ => .op (.waitDma2 sm (xM.slice (Rect.unit (s := S16384) (k0_off1 L) S1024.size (k0_off1_inb L)) (fun _ => rfl)) sX ha' hb') k) Q) := by
  iintro ⟨Hmw, Hx, ⟨%f, HX⟩, Hs, HO⟩ Hk
  ihave Hx := (pointsTo_split_subset (ℓ := xM.view.loc (V d (cV L) (jV L))) (q := q) (f := x) (Finset.subset_univ
    (xM.slice (Rect.unit (s := S16384) (k0_off1 L) S1024.size (k0_off1_inb L)) (fun _ => rfl)).view.set)).1 $$ Hx
  icases Hx with ⟨Hx, Hrest⟩
  iapply (Transfers.wp_dmaLocal countersEmb 𝒱₀ (V d (cV L) (jV L)) none (none : HIx 1) sX.view.dmaCredit rfl (View.amount_pos _ (.dma sm) (by decide)) subset_rfl) $$ [Hx HX Hs]
  · isplitl [Hx]; · iexact Hx
    isplitl [HX] <;> iassumption
  iintro Hf
  iapply (collect (F := F) d (cV L) (jV L) _ _ sm _ O W _ rfl) $$ [Hmw Hf HO]
  · isplitl [Hmw]; · iexact Hmw
    isplitl [Hf]; · iexact Hf
    iexact HO
  iintro ⟨⟨HX, Hx⟩, Hs, HO⟩
  iapply Hk
  isplitl [Hx Hrest]
  · iapply (pointsTo_split_subset (ℓ := xM.view.loc (V d (cV L) (jV L))) (q := q) (f := x) (Finset.subset_univ
      (xM.slice (Rect.unit (s := S16384) (k0_off1 L) S1024.size (k0_off1_inb L)) (fun _ => rfl)).view.set)).2
    isplitl [Hx] <;> iassumption
  isplitl [HX]
  · ihave HX := (holds_intro (F := F) d (cV L) (jV L) sX _) $$ HX
    iapply (Entails.of_eq (congrArg (holds (F := F) d (cV L) (jV L) sX) ((View.read_write_univ _ _).trans (mine_read L x)))) $$ HX
  isplitl [Hs] <;> iassumption

/-- The last block of the upper half sent: its first 48 rows, the copy waited for. -/
theorem send_last (hh : half L = 1) (off : Fin 2 → ℕ) (hoff : off = ![504 * half L + 448, 1024 * grp L]) (inb inb')
    (sm : DmaSem sig) (f : Vec F S1000x16384 .f32) (O : CellTallies nD τ sig (HIx 1)) (W : Waits sig (HIx 1))
    {hb hp ht hb' hp'} {α : Type} {Q : α → sProp 𝕄} {kk : PUnit → Prog (TpuEff nD τ sig (Elt F) Λ₀ (.scVector (cV L) (jV L))) α} :
    iprop(Transfers.MayWaits (V d (cV L) (jV L)) (none : HIx 1) O ∗ holds (F := F) d (cV L) (jV L) sA (hot (mine L x) (504 * half L + 448) 48)
        ∗ piece d L 448 48 f ∗ semVal (V d (cV L) (jV L), .dma sm) 0 ∗ owing (F := F) d (cV L) (jV L) O W)
      ⊢ iprop((iprop(piece d L 448 48 (onehot x) ∗ (∃ f, sA.view.loc (V d (cV L) (jV L)) ↦[sA.view.set]{fullShare} f)
            ∗ semVal (V d (cV L) (jV L), .dma sm) 0 ∗ owing (F := F) d (cV L) (jV L) O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.enqueueDma (sA.slice (Rect.unit (s := S56x1024) ![0, 0] S48x1024.size inb') (fun _ => rfl))
                (.here (vM.slice (Rect.unit (s := S1000x16384) off S48x1024.size inb) (fun _ => rfl))) (.dma sm) hb hp ht)
              fun _ => .op (.waitDma2 sm (sA.slice (Rect.unit (s := S56x1024) ![0, 0] S48x1024.size inb') (fun _ => rfl))
                (vM.slice (Rect.unit (s := S1000x16384) off S48x1024.size inb) (fun _ => rfl)) hb' hp') kk) Q) := by
  have hset : (vM.slice (Rect.unit (s := S1000x16384) off S48x1024.size inb) (fun _ => rfl)).view.set = box (504 * half L + 448) 48 (grp L) :=
    (View.set_slice_whole _ _).trans (unit_set _ _ _ off S48x1024.size inb hoff (by decide))
  have hG := landed x (504 * half L + 448) 48 (grp L) (grp_lt L) off S48x1024.size inb hoff (by decide) f
    (fun y => hot (mine L x) (504 * half L + 448) 48 ((Rect.unit (s := S56x1024) ![0, 0] S48x1024.size inb').emb y))
    (fun y h => by
      have e0 : (((Rect.unit (s := S56x1024) ![0, 0] S48x1024.size inb').emb y) 0).val = 0 + 1 * (y 0).val := rfl
      have e1 : (((Rect.unit (s := S56x1024) ![0, 0] S48x1024.size inb').emb y) 1).val = 0 + 1 * (y 1).val := rfl
      have h48 : (y 0).val < 48 := (y 0).isLt
      have el : label (mine L x) ((Rect.unit (s := S56x1024) ![0, 0] S48x1024.size inb').emb y) = mine L x (ixL (y 1).val h) :=
        congrArg (mine L x) (ixL_eq _ _ _ (e1.trans (by omega)))
      unfold hot
      rw [el, e0, show 0 + 1 * (y 0).val = (y 0).val by omega]
      exact if_congr (and_iff_right h48) rfl rfl)
  iintro ⟨Hmw, HA, Hp, Hs, HO⟩ Hk
  ihave HA := (holds_elim (F := F) d (cV L) (jV L) sA _) $$ HA
  icases HA with ⟨%a, %ha, HA⟩
  ihave HA := (pointsTo_split_subset (ℓ := sA.view.loc (V d (cV L) (jV L))) (q := fullShare) (f := a)
    (View.set_slice_subset sA.view (Rect.unit (s := S56x1024) ![0, 0] S48x1024.size inb'))).1 $$ HA
  icases HA with ⟨HA, Hrest⟩
  ihave HA := (holds_intro (F := F) d (cV L) (jV L) (sA.slice (Rect.unit (s := S56x1024) ![0, 0] S48x1024.size inb') (fun _ => rfl)) a) $$ HA
  have key0 := send (F := F) d (cV L) (jV L) (sA.slice (Rect.unit (s := S56x1024) ![0, 0] S48x1024.size inb') (fun _ => rfl))
    (vM.slice (Rect.unit (s := S1000x16384) off S48x1024.size inb) (fun _ => rfl)) sm (show 0 < S48x1024.numel by decide)
    ((sA.slice (Rect.unit (s := S56x1024) ![0, 0] S48x1024.size inb') (fun _ => rfl)).view.read (Elt F) a) f (onehot x)
    (by rw [show (sA.slice (Rect.unit (s := S56x1024) ![0, 0] S48x1024.size inb') (fun _ => rfl)).view.read (Elt F) a
          = (fun y => hot (mine L x) (504 * half L + 448) 48 ((Rect.unit (s := S56x1024) ![0, 0] S48x1024.size inb').emb y)) from by rw [← ha]; rfl]
        exact hG)
    (hb := hb) (hp := hp) (ht := ht) (Q := Q) (k := fun _ => .op (.waitDma2 sm (sA.slice (Rect.unit (s := S56x1024) ![0, 0] S48x1024.size inb') (fun _ => rfl))
      (vM.slice (Rect.unit (s := S1000x16384) off S48x1024.size inb) (fun _ => rfl)) hb' hp') kk)
  rw [hset] at key0
  have key : iprop(holds (F := F) d (cV L) (jV L) (sA.slice (Rect.unit (s := S56x1024) ![0, 0] S48x1024.size inb') (fun _ => rfl))
        ((sA.slice (Rect.unit (s := S56x1024) ![0, 0] S48x1024.size inb') (fun _ => rfl)).view.read (Elt F) a)
        ∗ piece d L 448 48 f ∗ semVal (V d (cV L) (jV L), .dma sm) 0)
      ⊢ iprop((flying d (cV L) (jV L) sm (vM.slice (Rect.unit (s := S1000x16384) off S48x1024.size inb) (fun _ => rfl)).view.dmaCredit
            iprop(piece d L 448 48 (onehot x) ∗ holds (F := F) d (cV L) (jV L) (sA.slice (Rect.unit (s := S56x1024) ![0, 0] S48x1024.size inb') (fun _ => rfl))
              ((sA.slice (Rect.unit (s := S56x1024) ![0, 0] S48x1024.size inb') (fun _ => rfl)).view.read (Elt F) a))
          -∗ wp frame (wpE (defs₀ (F := F)) 𝒱₀ (V d (cV L) (jV L)) none) Set.univ _ Q)
        -∗ wp frame (wpE (defs₀ (F := F)) 𝒱₀ (V d (cV L) (jV L)) none) Set.univ _ Q) := key0
  iapply key $$ [HA Hp Hs]
  · isplitl [HA]; · iexact HA
    isplitl [Hp] <;> iassumption
  iintro Hf
  iapply (collect (F := F) d (cV L) (jV L) _ _ sm _ O W _ rfl) $$ [Hmw Hf HO]
  · isplitl [Hmw]; · iexact Hmw
    isplitl [Hf]; · iexact Hf
    iexact HO
  iintro ⟨⟨Hp, HA⟩, Hs, HO⟩
  iapply Hk
  isplitl [Hp]; · iexact Hp
  isplitl [HA Hrest]
  · ihave HA := (holds_elim (F := F) d (cV L) (jV L) _ _) $$ HA
    icases HA with ⟨%b, -, HA⟩
    iexists _
    iapply (pointsTo_join_subset (ℓ := sA.view.loc (V d (cV L) (jV L))) (q := fullShare) (View.set_slice_subset sA.view (Rect.unit (s := S56x1024) ![0, 0] S48x1024.size inb')))
    isplitl [HA] <;> iassumption
  isplitl [Hs] <;> iassumption

end Tile

end Cert.Proof.OneHot

end
-- ==== Proof.Run.lean ====
/-
  One tile's program run from end to end, part by part.
-/
module

public import proofs.«01_k».proof.Proof.Tile

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (x : Vec F S16384 .i32)

/-- A block's copy waited for and the block turned into a later one. -/
theorem turn (O : CellTallies nD τ sig (HIx 1)) (W : Waits sig (HIx 1)) (B : Memref sig .scVector .vmem S56x1024 .f32)
    (P : Memref sig .scVector .hbm S56x1024 .f32) (sm : DmaSem sig) (R : sProp 𝕄) (old new : Vec F S56x1024 .f32)
    (l : Scf.Loop 32) (hok : l.OK) (hl : l.trips = 64) (body : Fin l.trips → Unit → Prog (TpuEff nD τ sig (Elt F) Λ₀ (.scVector (cV L) (jV L))) Unit)
    (hbody : ∀ (t : Fin l.trips) (ht : t.val < 64), both (F := F) d (cV L) (jV L) sX (mine L x) B (mix t.val old new)
      ⊢ wp frame (wpE (defs₀ (F := F)) 𝒱₀ (V d (cV L) (jV L)) none) Set.univ (body t ⟨⟩) fun _ => both (F := F) d (cV L) (jV L) sX (mine L x) B (mix (t.val + 1) old new))
    {hb hp} {α : Type} {Q : α → sProp 𝕄} {k : Unit → Prog (TpuEff nD τ sig (Elt F) Λ₀ (.scVector (cV L) (jV L))) α} :
    iprop(Transfers.MayWaits (V d (cV L) (jV L)) (none : HIx 1) O ∗ flying d (cV L) (jV L) sm P.view.dmaCredit iprop(R ∗ holds (F := F) d (cV L) (jV L) B old)
        ∗ holds (F := F) d (cV L) (jV L) sX (mine L x) ∗ owing (F := F) d (cV L) (jV L) O W)
      ⊢ iprop((iprop(R ∗ holds (F := F) d (cV L) (jV L) sX (mine L x) ∗ holds (F := F) d (cV L) (jV L) B new ∗ semVal (V d (cV L) (jV L), .dma sm) 0 ∗ owing (F := F) d (cV L) (jV L) O W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.waitDma2 sm B P hb hp) fun _ => Scf.Loop.for l hok ⟨⟩ body >>= k) Q) := by
  iintro ⟨Hmw, Hf, HX, HO⟩ Hk
  iapply (collect (F := F) d (cV L) (jV L) B P sm _ O W _ rfl) $$ [Hmw Hf HO]
  · isplitl [Hmw]; · iexact Hmw
    isplitl [Hf]; · iexact Hf
    iexact HO
  iintro ⟨⟨HR, HB⟩, Hs, HO⟩
  iapply (loop_mix (F := F) d (cV L) (jV L) sX (mine L x) B l hok hl old new body hbody) $$ [HX HB]
  · unfold both
    isplitl [HX] <;> iassumption
  unfold both
  iintro ⟨HX, HB⟩
  iapply Hk
  isplitl [HR]; · iexact HR
  isplitl [HX]; · iexact HX
  isplitl [HB]; · iexact HB
  isplitl [Hs] <;> iassumption

/-- The first part: the labels fetched and the constants built. -/
theorem part11_eq : k0_part11 (F := F) L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
    = .op (.enqueueDma (xM.slice (Rect.unit (s := S16384) (k0_off1 L) S1024.size (k0_off1_inb L)) (fun _ => rfl)) (.here sX) (.dma cc0_scoped0.sem)
        (View.wordExact_bits rfl) (Memref.isWhole_whole _).wordExact ⟨Or.inl rfl, trivial⟩) fun _ =>
      .op (.waitDma2 cc0_scoped0.sem (xM.slice (Rect.unit (s := S16384) (k0_off1 L) S1024.size (k0_off1_inb L)) (fun _ => rfl)) sX
        (View.wordExact_bits rfl) (Memref.isWhole_whole _).wordExact) fun _ =>
      .ret ⟨BitVec.ofNat 32 (half L), k0_pay6, k0_pay7, k0_pay8, iota .scVector S16 32 [0] iota_S16_d0_w32_scVector⟩ := by
  rw [← halfWord_eq L]; rfl

/-- The second part: blocks 0 to 3 built, 0 to 2 sent, 0 and 1 landed. -/
theorem part12_run (f : Vec F S1000x16384 .f32) (O : CellTallies nD τ sig (HIx 1)) (W : Waits sig (HIx 1)) (a b : Vec F S56x1024 .f32)
    {α : Type} {Q : α → sProp 𝕄} {k : _ → Prog (TpuEff nD τ sig (Elt F) Λ₀ (.scVector (cV L) (jV L))) α} :
    iprop(□ Transfers.MayWaits (V d (cV L) (jV L)) (none : HIx 1) O ∗ holds (F := F) d (cV L) (jV L) sX (mine L x)
        ∗ holds (F := F) d (cV L) (jV L) sA a
        ∗ holds (F := F) d (cV L) (jV L) sB b
        ∗ semVal (V d (cV L) (jV L), .dma cc0_scratch3.sem) 0
        ∗ semVal (V d (cV L) (jV L), .dma cc0_scratch4.sem) 0
        ∗ piece d L 0 56 f
        ∗ piece d L 56 56 f
        ∗ piece d L 112 56 f
        ∗ owing (F := F) d (cV L) (jV L) O W)
      ⊢ iprop((iprop(holds (F := F) d (cV L) (jV L) sX (mine L x)
            ∗ flying d (cV L) (jV L) cc0_scratch3.sem (vM.slice (Rect.unit (s := S1000x16384) (k0_off67 L 112#32) S56x1024.size (k0_off67_inb L 2)) (fun _ => rfl)).view.dmaCredit iprop(piece d L 112 56 (onehot x) ∗ holds (F := F) d (cV L) (jV L) sA (hot (mine L x) (504 * half L + 112) 56))
            ∗ holds (F := F) d (cV L) (jV L) sB (hot (mine L x) (504 * half L + 168) 56)
            ∗ semVal (V d (cV L) (jV L), .dma cc0_scratch4.sem) 0
            ∗ piece d L 0 56 (onehot x)
            ∗ piece d L 56 56 (onehot x)
            ∗ owing (F := F) d (cV L) (jV L) O W)
          -∗ wp frame (wpE (defs₀ (F := F)) 𝒱₀ (V d (cV L) (jV L)) none) Set.univ (k ⟨(Scalar.muli (BitVec.ofNat 32 (half L)) 504#32), (Scalar.addi (Scalar.muli (BitVec.ofNat 32 (half L)) 504#32) 112#32), (Scalar.addi (Scalar.muli (BitVec.ofNat 32 (half L)) 504#32) 168#32)⟩) Q)
        -∗ wp frame (wpE (defs₀ (F := F)) 𝒱₀ (V d (cV L) (jV L)) none) Set.univ (k0_part12 (F := F) L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2 (BitVec.ofNat 32 (half L)) (k0_pay6 (F := F)) (k0_pay7 (F := F)) (k0_pay8 (F := F)) (iota .scVector S16 32 [0] iota_S16_d0_w32_scVector) >>= k) Q) := by
  rw [k0_part12_eq_skeleton]; unfold k0_part12_skel
  simp only [Prog.lift, Prog.bind_op, Prog.bind_ret, Prog.pure_eq_ret, bind_assoc]
  iintro ⟨#Hmw, HX, HA, HB, SA, SB, P0, P56, P112, HO⟩ Hk
  iapply (loop_wipe (F := F) d (cV L) (jV L) sA k0_t1_loop k0_t1_ok rfl _ _ (fun t => zero_t1 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector) (h30 := rfl) (t := t) _)) $$ HA
  iintro HA
  iapply (loop_mix (F := F) d (cV L) (jV L) sX (mine L x) sA k0_t2_loop k0_t2_ok rfl blank (hot (mine L x) (504 * half L + 0) 56) _
    (fun t ht => trip_t2 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector)
      (hh := half_le L) (hv28 := rfl) (h31 := rfl) (h33 := rfl) (xs := mine L x) (t := t) (ht := ht))) $$ [HX HA]
  · unfold both
    isplitl [HX] <;> iassumption
  unfold both
  iintro ⟨HX, HA⟩
  iapply (send_block d L x sA 0 (k0_off67 L 0#32) (off67_eq L 0) (k0_off67_inb L 0) cc0_scratch3.sem f) $$ [HA P0 SA]
  · isplitl [HA]; · iexact HA
    isplitl [P0] <;> iassumption
  iintro FA
  iapply (loop_wipe (F := F) d (cV L) (jV L) sB k0_t3_loop k0_t3_ok rfl _ _ (fun t => zero_t3 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector) (h30 := rfl) (t := t) _)) $$ HB
  iintro HB
  iapply (loop_mix (F := F) d (cV L) (jV L) sX (mine L x) sB k0_t4_loop k0_t4_ok rfl blank (hot (mine L x) (504 * half L + 56) 56) _
    (fun t ht => trip_t4 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector)
      (hh := half_le L) (hv28 := rfl) (h31 := rfl) (h33 := rfl) (xs := mine L x) (t := t) (ht := ht))) $$ [HX HB]
  · unfold both
    isplitl [HX] <;> iassumption
  unfold both
  iintro ⟨HX, HB⟩
  iapply (send_block d L x sB 56 (k0_off67 L 56#32) (off67_eq L 1) (k0_off67_inb L 1) cc0_scratch4.sem f) $$ [HB P56 SB]
  · isplitl [HB]; · iexact HB
    isplitl [P56] <;> iassumption
  iintro FB
  iapply (turn d L x O W sA (vM.slice (Rect.unit (s := S1000x16384) (k0_off67 L 0#32) S56x1024.size (k0_off67_inb L 0)) (fun _ => rfl)) cc0_scratch3.sem (piece d L 0 56 (onehot x)) (hot (mine L x) (504 * half L + 0) 56) (hot (mine L x) (504 * half L + 112) 56)
    k0_t5_loop k0_t5_ok rfl _ (fun t ht => trip_t5 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector)
      (hh := half_le L) (hv28 := rfl) (h31 := rfl) (h32 := rfl) (h33 := rfl) (xs := mine L x) (t := t) (ht := ht))) $$ [FA HX HO]
  · isplitr; · iexact Hmw
    isplitl [FA]; · iexact FA
    isplitl [HX] <;> iassumption
  iintro ⟨P0, HX, HA, SA, HO⟩
  iapply (send_block d L x sA 112 (k0_off67 L 112#32) (off67_eq L 2) (k0_off67_inb L 2) cc0_scratch3.sem f) $$ [HA P112 SA]
  · isplitl [HA]; · iexact HA
    isplitl [P112] <;> iassumption
  iintro FA
  iapply (turn d L x O W sB (vM.slice (Rect.unit (s := S1000x16384) (k0_off67 L 56#32) S56x1024.size (k0_off67_inb L 1)) (fun _ => rfl)) cc0_scratch4.sem (piece d L 56 56 (onehot x)) (hot (mine L x) (504 * half L + 56) 56) (hot (mine L x) (504 * half L + 168) 56)
    k0_t6_loop k0_t6_ok rfl _ (fun t ht => trip_t6 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v30 := k0_pay6 (F := F)) (v31 := k0_pay7 (F := F)) (v32 := k0_pay8 (F := F)) (v33 := iota .scVector S16 32 [0] iota_S16_d0_w32_scVector)
      (hh := half_le L) (hv28 := rfl) (h31 := rfl) (h32 := rfl) (h33 := rfl) (xs := mine L x) (t := t) (ht := ht))) $$ [FB HX HO]
  · isplitr; · iexact Hmw
    isplitl [FB]; · iexact FB
    isplitl [HX] <;> iassumption
  iintro ⟨P56, HX, HB, SB, HO⟩
  iapply Hk
  isplitl [HX]; · iexact HX
  isplitl [FA]; · iexact FA
  isplitl [HB]; · iexact HB
  isplitl [SB]; · iexact SB
  isplitl [P0]; · iexact P0
  isplitl [P56]; · iexact P56
  iexact HO

/-- The third part: blocks 3 to 7 sent, 2 to 5 landed. -/
theorem part13_run (f : Vec F S1000x16384 .f32) (O : CellTallies nD τ sig (HIx 1)) (W : Waits sig (HIx 1))
    {α : Type} {Q : α → sProp 𝕄} {k : _ → Prog (TpuEff nD τ sig (Elt F) Λ₀ (.scVector (cV L) (jV L))) α} :
    iprop(□ Transfers.MayWaits (V d (cV L) (jV L)) (none : HIx 1) O ∗ holds (F := F) d (cV L) (jV L) sX (mine L x)
        ∗ flying d (cV L) (jV L) cc0_scratch3.sem (vM.slice (Rect.unit (s := S1000x16384) (k0_off67 L 112#32) S56x1024.size (k0_off67_inb L 2)) (fun _ => rfl)).view.dmaCredit iprop(piece d L 112 56 (onehot x) ∗ holds (F := F) d (cV L) (jV L) sA (hot (mine L x) (504 * half L + 112) 56))
        ∗ holds (F := F) d (cV L) (jV L) sB (hot (mine L x) (504 * half L + 168) 56)
        ∗ semVal (V d (cV L) (jV L), .dma cc0_scratch4.sem) 0
        ∗ piece d L 168 56 f
        ∗ piece d L 224 56 f
        ∗ piece d L 280 56 f
        ∗ piece d L 336 56 f
        ∗ piece d L 392 56 f
        ∗ owing (F := F) d (cV L) (jV L) O W)
      ⊢ iprop((iprop(holds (F := F) d (cV L) (jV L) sX (mine L x)
            ∗ flying d (cV L) (jV L) cc0_scratch3.sem (vM.slice (Rect.unit (s := S1000x16384) (k0_off67 L 336#32) S56x1024.size (k0_off67_inb L 6)) (fun _ => rfl)).view.dmaCredit iprop(piece d L 336 56 (onehot x) ∗ holds (F := F) d (cV L) (jV L) sA (hot (mine L x) (504 * half L + 336) 56))
            ∗ flying d (cV L) (jV L) cc0_scratch4.sem (vM.slice (Rect.unit (s := S1000x16384) (k0_off67 L 392#32) S56x1024.size (k0_off67_inb L 7)) (fun _ => rfl)).view.dmaCredit iprop(piece d L 392 56 (onehot x) ∗ holds (F := F) d (cV L) (jV L) sB (hot (mine L x) (504 * half L + 392) 56))
            ∗ piece d L 112 56 (onehot x)
            ∗ piece d L 168 56 (onehot x)
            ∗ piece d L 224 56 (onehot x)
            ∗ piece d L 280 56 (onehot x)
            ∗ owing (F := F) d (cV L) (jV L) O W)
          -∗ wp frame (wpE (defs₀ (F := F)) 𝒱₀ (V d (cV L) (jV L)) none) Set.univ (k (Scalar.addi (Scalar.muli (BitVec.ofNat 32 (half L)) 504#32) 336#32)) Q)
        -∗ wp frame (wpE (defs₀ (F := F)) 𝒱₀ (V d (cV L) (jV L)) none) Set.univ (k0_part13 (F := F) L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2 (k0_pay7 (F := F)) (k0_pay8 (F := F)) (iota .scVector S16 32 [0] iota_S16_d0_w32_scVector) (Scalar.muli (BitVec.ofNat 32 (half L)) 504#32) (Scalar.addi (Scalar.muli (BitVec.ofNat 32 (half L)) 504#32) 112#32) (Scalar.addi (Scalar.muli (BitVec.ofNat 32 (half L)) 504#32) 168#32) >>= k) Q) := by
  rw [k0_part13_eq_skeleton]; unfold k0_part13_skel
  simp only [Prog.lift, Prog.bind_op, Prog.bind_ret, Prog.pure_eq_ret, bind_assoc]
  iintro ⟨#Hmw, HX, FA, HB, SB, P168, P224, P280, P336, P392, HO⟩ Hk
  iapply (send_block d L x sB 168 (k0_off67 L 168#32) (off67_eq L 3) (k0_off67_inb L 3) cc0_scratch4.sem f) $$ [HB P168 SB]
  · isplitl [HB]; · iexact HB
    isplitl [P168] <;> iassumption
  iintro FB
  iapply (turn d L x O W sA (vM.slice (Rect.unit (s := S1000x16384) (k0_off67 L 112#32) S56x1024.size (k0_off67_inb L 2)) (fun _ => rfl)) cc0_scratch3.sem (piece d L 112 56 (onehot x)) (hot (mine L x) (504 * half L + 112) 56) (hot (mine L x) (504 * half L + 224) 56)
    k0_t7_loop k0_t7_ok rfl _ (fun t ht => trip_t7 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v31 := k0_pay7 (F := F)) (v32 := k0_pay8 (F := F)) (v33 := iota .scVector S16 32 [0] iota_S16_d0_w32_scVector) (v34 := (Scalar.muli (BitVec.ofNat 32 (half L)) 504#32)) (v45 := (Scalar.addi (Scalar.muli (BitVec.ofNat 32 (half L)) 504#32) 112#32)) (v51 := (Scalar.addi (Scalar.muli (BitVec.ofNat 32 (half L)) 504#32) 168#32))
      (hh := half_le L) (hv34 := rfl) (h31 := rfl) (h32 := rfl) (h33 := rfl) (hv45 := rfl) (xs := mine L x) (t := t) (ht := ht))) $$ [FA HX HO]
  · isplitr; · iexact Hmw
    isplitl [FA]; · iexact FA
    isplitl [HX] <;> iassumption
  iintro ⟨P112, HX, HA, SA, HO⟩
  iapply (send_block d L x sA 224 (k0_off67 L 224#32) (off67_eq L 4) (k0_off67_inb L 4) cc0_scratch3.sem f) $$ [HA P224 SA]
  · isplitl [HA]; · iexact HA
    isplitl [P224] <;> iassumption
  iintro FA
  iapply (turn d L x O W sB (vM.slice (Rect.unit (s := S1000x16384) (k0_off67 L 168#32) S56x1024.size (k0_off67_inb L 3)) (fun _ => rfl)) cc0_scratch4.sem (piece d L 168 56 (onehot x)) (hot (mine L x) (504 * half L + 168) 56) (hot (mine L x) (504 * half L + 280) 56)
    k0_t8_loop k0_t8_ok rfl _ (fun t ht => trip_t8 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v31 := k0_pay7 (F := F)) (v32 := k0_pay8 (F := F)) (v33 := iota .scVector S16 32 [0] iota_S16_d0_w32_scVector) (v34 := (Scalar.muli (BitVec.ofNat 32 (half L)) 504#32)) (v45 := (Scalar.addi (Scalar.muli (BitVec.ofNat 32 (half L)) 504#32) 112#32)) (v51 := (Scalar.addi (Scalar.muli (BitVec.ofNat 32 (half L)) 504#32) 168#32))
      (hh := half_le L) (hv34 := rfl) (h31 := rfl) (h32 := rfl) (h33 := rfl) (hv51 := rfl) (xs := mine L x) (t := t) (ht := ht))) $$ [FB HX HO]
  · isplitr; · iexact Hmw
    isplitl [FB]; · iexact FB
    isplitl [HX] <;> iassumption
  iintro ⟨P168, HX, HB, SB, HO⟩
  iapply (send_block d L x sB 280 (k0_off67 L 280#32) (off67_eq L 5) (k0_off67_inb L 5) cc0_scratch4.sem f) $$ [HB P280 SB]
  · isplitl [HB]; · iexact HB
    isplitl [P280] <;> iassumption
  iintro FB
  iapply (turn d L x O W sA (vM.slice (Rect.unit (s := S1000x16384) (k0_off67 L 224#32) S56x1024.size (k0_off67_inb L 4)) (fun _ => rfl)) cc0_scratch3.sem (piece d L 224 56 (onehot x)) (hot (mine L x) (504 * half L + 224) 56) (hot (mine L x) (504 * half L + 336) 56)
    k0_t9_loop k0_t9_ok rfl _ (fun t ht => trip_t9 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v31 := k0_pay7 (F := F)) (v32 := k0_pay8 (F := F)) (v33 := iota .scVector S16 32 [0] iota_S16_d0_w32_scVector) (v34 := (Scalar.muli (BitVec.ofNat 32 (half L)) 504#32)) (v45 := (Scalar.addi (Scalar.muli (BitVec.ofNat 32 (half L)) 504#32) 112#32)) (v51 := (Scalar.addi (Scalar.muli (BitVec.ofNat 32 (half L)) 504#32) 168#32))
      (hh := half_le L) (hv34 := rfl) (h31 := rfl) (h32 := rfl) (h33 := rfl) (xs := mine L x) (t := t) (ht := ht))) $$ [FA HX HO]
  · isplitr; · iexact Hmw
    isplitl [FA]; · iexact FA
    isplitl [HX] <;> iassumption
  iintro ⟨P224, HX, HA, SA, HO⟩
  iapply (send_block d L x sA 336 (k0_off67 L 336#32) (off67_eq L 6) (k0_off67_inb L 6) cc0_scratch3.sem f) $$ [HA P336 SA]
  · isplitl [HA]; · iexact HA
    isplitl [P336] <;> iassumption
  iintro FA
  iapply (turn d L x O W sB (vM.slice (Rect.unit (s := S1000x16384) (k0_off67 L 280#32) S56x1024.size (k0_off67_inb L 5)) (fun _ => rfl)) cc0_scratch4.sem (piece d L 280 56 (onehot x)) (hot (mine L x) (504 * half L + 280) 56) (hot (mine L x) (504 * half L + 392) 56)
    k0_t10_loop k0_t10_ok rfl _ (fun t ht => trip_t10 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v31 := k0_pay7 (F := F)) (v32 := k0_pay8 (F := F)) (v33 := iota .scVector S16 32 [0] iota_S16_d0_w32_scVector) (v34 := (Scalar.muli (BitVec.ofNat 32 (half L)) 504#32)) (v45 := (Scalar.addi (Scalar.muli (BitVec.ofNat 32 (half L)) 504#32) 112#32)) (v51 := (Scalar.addi (Scalar.muli (BitVec.ofNat 32 (half L)) 504#32) 168#32))
      (hh := half_le L) (hv34 := rfl) (h31 := rfl) (h32 := rfl) (h33 := rfl) (xs := mine L x) (t := t) (ht := ht))) $$ [FB HX HO]
  · isplitr; · iexact Hmw
    isplitl [FB]; · iexact FB
    isplitl [HX] <;> iassumption
  iintro ⟨P280, HX, HB, SB, HO⟩
  iapply (send_block d L x sB 392 (k0_off67 L 392#32) (off67_eq L 7) (k0_off67_inb L 7) cc0_scratch4.sem f) $$ [HB P392 SB]
  · isplitl [HB]; · iexact HB
    isplitl [P392] <;> iassumption
  iintro FB
  iapply Hk
  isplitl [HX]; · iexact HX
  isplitl [FA]; · iexact FA
  isplitl [FB]; · iexact FB
  isplitl [P112]; · iexact P112
  isplitl [P168]; · iexact P168
  isplitl [P224]; · iexact P224
  isplitl [P280]; · iexact P280
  iexact HO

/-- What the tile runs with: the labels at a share, its scratch, its semaphores at zero, its output at `f`, what it owes. -/
def over (q : PosShare TreeShare) (f : Vec F S1000x16384 .f32) (O : CellTallies nD τ sig (HIx 1)) (W : Waits sig (HIx 1)) : sProp 𝕄 :=
  iprop((xM.view.loc (V d (cV L) (jV L)) ↦{q} x)
    ∗ (∃ g, sX.view.loc (V d (cV L) (jV L)) ↦[sX.view.set]{fullShare} g)
    ∗ (∃ g, sA.view.loc (V d (cV L) (jV L)) ↦[sA.view.set]{fullShare} g)
    ∗ (∃ g, sB.view.loc (V d (cV L) (jV L)) ↦[sB.view.set]{fullShare} g)
    ∗ semVal (V d (cV L) (jV L), .dma cc0_scratch3.sem) 0
    ∗ semVal (V d (cV L) (jV L), .dma cc0_scratch4.sem) 0
    ∗ semVal (V d (cV L) (jV L), .dma cc0_scoped0.sem) 0
    ∗ semVal (V d (cV L) (jV L), .dma cc0_scoped1.sem) 0
    ∗ semVal (V d (cV L) (jV L), .dma cc0_scoped2.sem) 0
    ∗ (vM.view.loc (V d (cV L) (jV L)) ↦[tileSet L]{fullShare} f)
    ∗ owing (F := F) d (cV L) (jV L) O W)

theorem over_eq (q : PosShare TreeShare) (f : Vec F S1000x16384 .f32) (O : CellTallies nD τ sig (HIx 1)) (W : Waits sig (HIx 1)) : over d L x q f O W
    = iprop((xM.view.loc (V d (cV L) (jV L)) ↦{q} x)
        ∗ (∃ g, sX.view.loc (V d (cV L) (jV L)) ↦[sX.view.set]{fullShare} g)
        ∗ (∃ g, sA.view.loc (V d (cV L) (jV L)) ↦[sA.view.set]{fullShare} g)
        ∗ (∃ g, sB.view.loc (V d (cV L) (jV L)) ↦[sB.view.set]{fullShare} g)
        ∗ semVal (V d (cV L) (jV L), .dma cc0_scratch3.sem) 0
        ∗ semVal (V d (cV L) (jV L), .dma cc0_scratch4.sem) 0
        ∗ semVal (V d (cV L) (jV L), .dma cc0_scoped0.sem) 0
        ∗ semVal (V d (cV L) (jV L), .dma cc0_scoped1.sem) 0
        ∗ semVal (V d (cV L) (jV L), .dma cc0_scoped2.sem) 0
        ∗ (vM.view.loc (V d (cV L) (jV L)) ↦[tileSet L]{fullShare} f)
        ∗ owing (F := F) d (cV L) (jV L) O W) := rfl

/-- The end: block 7 landed, everything back in one hand. -/
theorem end_run (q : PosShare TreeShare) (O : CellTallies nD τ sig (HIx 1)) (W : Waits sig (HIx 1)) {hb hp} :
    iprop(□ Transfers.MayWaits (V d (cV L) (jV L)) (none : HIx 1) O ∗ (xM.view.loc (V d (cV L) (jV L)) ↦{q} x)
        ∗ holds (F := F) d (cV L) (jV L) sX (mine L x)
        ∗ (∃ g, sA.view.loc (V d (cV L) (jV L)) ↦[sA.view.set]{fullShare} g)
        ∗ flying d (cV L) (jV L) cc0_scratch4.sem (vM.slice (Rect.unit (s := S1000x16384) (k0_off67 L 392#32) S56x1024.size (k0_off67_inb L 7)) (fun _ => rfl)).view.dmaCredit iprop(piece d L 392 56 (onehot x) ∗ holds (F := F) d (cV L) (jV L) sB (hot (mine L x) (504 * half L + 392) 56))
        ∗ semVal (V d (cV L) (jV L), .dma cc0_scratch3.sem) 0
        ∗ semVal (V d (cV L) (jV L), .dma cc0_scoped0.sem) 0
        ∗ semVal (V d (cV L) (jV L), .dma cc0_scoped1.sem) 0
        ∗ semVal (V d (cV L) (jV L), .dma cc0_scoped2.sem) 0
        ∗ piece d L 0 56 (onehot x)
        ∗ piece d L 56 56 (onehot x)
        ∗ piece d L 112 56 (onehot x)
        ∗ piece d L 168 56 (onehot x)
        ∗ piece d L 224 56 (onehot x)
        ∗ piece d L 280 56 (onehot x)
        ∗ piece d L 336 56 (onehot x)
        ∗ piece d L 448 (lastN (half L)) (onehot x)
        ∗ owing (F := F) d (cV L) (jV L) O W)
      ⊢ wp frame (wpE (defs₀ (F := F)) 𝒱₀ (V d (cV L) (jV L)) none) Set.univ (.op (.waitDma2 cc0_scratch4.sem sB (vM.slice (Rect.unit (s := S1000x16384) (k0_off67 L 392#32) S56x1024.size (k0_off67_inb L 7)) (fun _ => rfl)) hb hp) fun _ => .ret PUnit.unit)
          fun _ => over d L x q (onehot x) O W := by
  rw [over_eq, pieces d L (onehot x)]
  iintro ⟨#Hmw, Hx, HX, HA, FB, SA, S0, S1, S2, P0, P56, P112, P168, P224, P280, P336, P448, HO⟩
  iapply (collect (F := F) d (cV L) (jV L) sB (vM.slice (Rect.unit (s := S1000x16384) (k0_off67 L 392#32) S56x1024.size (k0_off67_inb L 7)) (fun _ => rfl)) cc0_scratch4.sem _ O W _ rfl) $$ [FB HO]
  · isplitr; · iexact Hmw
    isplitl [FB]; · iexact FB
    iexact HO
  iintro ⟨⟨P392, HB⟩, SB, HO⟩
  rw [wp_ret]
  imodintro
  ihave HX := (holds_elim (F := F) d (cV L) (jV L) sX _) $$ HX
  icases HX with ⟨%gx, -, HX⟩
  ihave HB := (holds_elim (F := F) d (cV L) (jV L) sB _) $$ HB
  icases HB with ⟨%gb, -, HB⟩
  isplitl [Hx]; · iexact Hx
  isplitl [HX]; · iexists gx; iexact HX
  isplitl [HA]; · iexact HA
  isplitl [HB]; · iexists gb; iexact HB
  isplitl [SA]; · iexact SA
  isplitl [SB]; · iexact SB
  isplitl [S0]; · iexact S0
  isplitl [S1]; · iexact S1
  isplitl [S2]; · iexact S2
  isplitr [HO]
  · isplitl [P0]; · iexact P0
    isplitl [P56]; · iexact P56
    isplitl [P112]; · iexact P112
    isplitl [P168]; · iexact P168
    isplitl [P224]; · iexact P224
    isplitl [P280]; · iexact P280
    isplitl [P336]; · iexact P336
    isplitl [P392] <;> iassumption
  iexact HO

set_option maxHeartbeats 1000000 in
/-- The tile's whole program. -/
theorem body_run (q : PosShare TreeShare) (f : Vec F S1000x16384 .f32) (O : CellTallies nD τ sig (HIx 1)) (W : Waits sig (HIx 1)) :
    iprop(□ Transfers.MayWaits (V d (cV L) (jV L)) (none : HIx 1) O ∗ over d L x q f O W)
      ⊢ wp frame (wpE (defs₀ (F := F)) 𝒱₀ (V d (cV L) (jV L)) none) Set.univ (cc0__onehot_body (F := F) L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2)
          fun _ => over d L x q (onehot x) O W := by
  rw [cc0__onehot_body_eq_skeleton]; unfold cc0__onehot_body_skel
  simp only [part11_eq, Prog.lift, Prog.bind_op, Prog.bind_ret, Prog.pure_eq_ret, bind_assoc]
  rw [over_eq d L x q f O W, pieces d L f]
  iintro ⟨#Hmw, Hx, HX, ⟨%a, HA⟩, ⟨%b, HB⟩, SA, SB, S0, S1, S2, ⟨P0, P56, P112, P168, P224, P280, P336, P392, P448⟩, HO⟩
  ihave HA := (holds_intro (F := F) d (cV L) (jV L) sA a) $$ HA
  ihave HB := (holds_intro (F := F) d (cV L) (jV L) sB b) $$ HB
  iapply (fetch d L x q O W cc0_scoped0.sem) $$ [Hx HX S0 HO]
  · isplitr; · iexact Hmw
    isplitl [Hx]; · iexact Hx
    isplitl [HX]; · iexact HX
    isplitl [S0] <;> iassumption
  iintro ⟨Hx, HX, S0, HO⟩
  iapply (part12_run d L x f O W _ _) $$ [HX HA HB SA SB P0 P56 P112 HO]
  · isplitr; · iexact Hmw
    isplitl [HX]; · iexact HX
    isplitl [HA]; · iexact HA
    isplitl [HB]; · iexact HB
    isplitl [SA]; · iexact SA
    isplitl [SB]; · iexact SB
    isplitl [P0]; · iexact P0
    isplitl [P56]; · iexact P56
    isplitl [P112] <;> iassumption
  iintro ⟨HX, FA, HB, SB, P0, P56, HO⟩
  iapply (part13_run d L x f O W) $$ [HX FA HB SB P168 P224 P280 P336 P392 HO]
  · isplitr; · iexact Hmw
    isplitl [HX]; · iexact HX
    isplitl [FA]; · iexact FA
    isplitl [HB]; · iexact HB
    isplitl [SB]; · iexact SB
    isplitl [P168]; · iexact P168
    isplitl [P224]; · iexact P224
    isplitl [P280]; · iexact P280
    isplitl [P336]; · iexact P336
    isplitl [P392] <;> iassumption
  iintro ⟨HX, FA, FB, P112, P168, P224, P280, HO⟩
  iapply (turn d L x O W sA (vM.slice (Rect.unit (s := S1000x16384) (k0_off67 L 336#32) S56x1024.size (k0_off67_inb L 6)) (fun _ => rfl)) cc0_scratch3.sem (piece d L 336 56 (onehot x)) (hot (mine L x) (504 * half L + 336) 56) (hot (mine L x) (504 * half L + 448) (lastN (half L)))
    k0_t11_loop k0_t11_ok rfl _ (fun t ht => trip_t11 (F := F) d L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2
      (v28 := BitVec.ofNat 32 (half L)) (v31 := k0_pay7 (F := F)) (v32 := k0_pay8 (F := F)) (v33 := iota .scVector S16 32 [0] iota_S16_d0_w32_scVector) (v34 := (Scalar.muli (BitVec.ofNat 32 (half L)) 504#32)) (v69 := (Scalar.addi (Scalar.muli (BitVec.ofNat 32 (half L)) 504#32) 336#32))
      (hh := half_le L) (hv28 := rfl) (hv34 := rfl) (hv69 := rfl) (h31 := rfl) (h32 := rfl) (h33 := rfl) (xs := mine L x) (t := t) (ht := ht))) $$ [FA HX HO]
  · isplitr; · iexact Hmw
    isplitl [FA]; · iexact FA
    isplitl [HX] <;> iassumption
  iintro ⟨P336, HX, HA, SA, HO⟩
  rcases Nat.le_one_iff_eq_zero_or_eq_one.mp (half_le L) with hh | hh
  · have c1 : k0_cond1 L = 1#1 := (cond1_iff L).mpr hh
    have c2 : ¬ k0_cond2 L = 1#1 := fun e => absurd ((cond2_iff L).mp e) (by omega)
    simp only [dif_pos c1, dif_neg c2]
    have hl : lastN (half L) = 56 := by rw [hh]; rfl
    ihave HA := (Entails.of_eq (congrArg (fun n => holds (F := F) d (cV L) (jV L) sA (hot (mine L x) (504 * half L + 448) n)) hl)) $$ HA
    ihave P448 := (Entails.of_eq (congrArg (fun n => piece d L 448 n f) hl)) $$ P448
    iapply (send_block d L x sA 448 (k0_off140 L) (off140_eq L) (k0_off140_inb L c1) cc0_scoped1.sem f) $$ [HA P448 S1]
    · isplitl [HA]; · iexact HA
      isplitl [P448] <;> iassumption
    iintro F1
    iapply (collect (F := F) d (cV L) (jV L) sA (vM.slice (Rect.unit (s := S1000x16384) (k0_off140 L) S56x1024.size (k0_off140_inb L c1)) (fun _ => rfl)) cc0_scoped1.sem _ O W _ rfl) $$ [F1 HO]
    · isplitr; · iexact Hmw
      isplitl [F1]; · iexact F1
      iexact HO
    iintro ⟨⟨P448, HA⟩, S1, HO⟩
    ihave P448 := (Entails.of_eq (congrArg (fun n => piece d L 448 n (onehot x)) hl.symm)) $$ P448
    ihave HA := (holds_elim (F := F) d (cV L) (jV L) sA _) $$ HA
    icases HA with ⟨%ga, -, HA⟩
    ihave HA := (exists_intro (Φ := fun g => iprop( sA.view.loc (V d (cV L) (jV L)) ↦[sA.view.set]{fullShare} g)) ga) $$ HA
    iapply (end_run d L x q O W) $$ [Hx HX HA FB SA S0 S1 S2 P0 P56 P112 P168 P224 P280 P336 P448 HO]
    isplitr; · iexact Hmw
    isplitl [Hx]; · iexact Hx
    isplitl [HX]; · iexact HX
    isplitl [HA]; · iexact HA
    isplitl [FB]; · iexact FB
    isplitl [SA]; · iexact SA
    isplitl [S0]; · iexact S0
    isplitl [S1]; · iexact S1
    isplitl [S2]; · iexact S2
    isplitl [P0]; · iexact P0
    isplitl [P56]; · iexact P56
    isplitl [P112]; · iexact P112
    isplitl [P168]; · iexact P168
    isplitl [P224]; · iexact P224
    isplitl [P280]; · iexact P280
    isplitl [P336]; · iexact P336
    isplitl [P448]; · iexact P448
    iexact HO
  · have c1 : ¬ k0_cond1 L = 1#1 := fun e => absurd ((cond1_iff L).mp e) (by omega)
    have c2 : k0_cond2 L = 1#1 := (cond2_iff L).mpr hh
    simp only [dif_neg c1, dif_pos c2]
    have hl : lastN (half L) = 48 := by rw [hh]; rfl
    ihave HA := (Entails.of_eq (congrArg (fun n => holds (F := F) d (cV L) (jV L) sA (hot (mine L x) (504 * half L + 448) n)) hl)) $$ HA
    ihave P448 := (Entails.of_eq (congrArg (fun n => piece d L 448 n f) hl)) $$ P448
    iapply (send_last d L x hh (k0_off141 L) (off141_eq L) (k0_off141_inb L c2) inb_S56x1024_S48x1024_0_0 cc0_scoped2.sem f O W) $$ [HA P448 S2 HO]
    · isplitr; · iexact Hmw
      isplitl [HA]; · iexact HA
      isplitl [P448]; · iexact P448
      isplitl [S2] <;> iassumption
    iintro ⟨P448, HA, S2, HO⟩
    ihave P448 := (Entails.of_eq (congrArg (fun n => piece d L 448 n (onehot x)) hl.symm)) $$ P448
    iapply (end_run d L x q O W) $$ [Hx HX HA FB SA S0 S1 S2 P0 P56 P112 P168 P224 P280 P336 P448 HO]
    isplitr; · iexact Hmw
    isplitl [Hx]; · iexact Hx
    isplitl [HX]; · iexact HX
    isplitl [HA]; · iexact HA
    isplitl [FB]; · iexact FB
    isplitl [SA]; · iexact SA
    isplitl [S0]; · iexact S0
    isplitl [S1]; · iexact S1
    isplitl [S2]; · iexact S2
    isplitl [P0]; · iexact P0
    isplitl [P56]; · iexact P56
    isplitl [P112]; · iexact P112
    isplitl [P168]; · iexact P168
    isplitl [P224]; · iexact P224
    isplitl [P280]; · iexact P280
    isplitl [P336]; · iexact P336
    isplitl [P448]; · iexact P448
    iexact HO

end Tile

end Cert.Proof.OneHot
-- ==== Proof.Launch.lean ====
/-
  The launch: the tile's run as a task of the call, the call's operands dealt to the tiles and gathered again,
  @main, and the whole program's run with the result's value.
-/
module

public import proofs.«01_k».proof.Proof.Run
public import Idealize.ShloMosaic.Lib.SparseCore.Quiescent

@[expose] public section

noncomputable section

namespace Cert.Proof.OneHot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

section Task

variable (d : Dev nD) (L : grid0.Coords) (x : Vec F S16384 .i32)

/-! ## What a tile is handed beside its operands -/

/-- The semaphores of the tile's copies, and its scratch buffers. -/
def mySems : Finset (DmaSem sig) := {cc0_scratch3.sem, cc0_scratch4.sem, cc0_scoped0.sem, cc0_scoped1.sem, cc0_scoped2.sem}
def myBufs : Finset (Ref sig .scVector) := {cc0_scratch0, cc0_scratch1, cc0_scratch2}

def semEmb : DmaSem sig ↪ GSem nD τ sig := ⟨fun s => (V d (cV L) (jV L), .dma s), fun _ _ e => SemLoc.dma.inj (Prod.mk.inj e).2⟩
def bufEmb : Ref sig .scVector ↪ DevRef τ sig := ⟨(Proc.scVector (cV L) (jV L)).devRef, Proc.devRef_injective _⟩

theorem mySems_sub : mySems.map (semEmb d L) ⊆ ownCells (V d (cV L) (jV L)) := by
  intro g hg
  obtain ⟨s, hs, rfl⟩ := Finset.mem_map.mp hg
  exact mem_ownCells.mpr ⟨rfl, (show ∀ s ∈ mySems, (SemLoc.dma s : SemLoc sig).isScoped .scVector = true by decide) s hs⟩

theorem myBufs_sub : myBufs.map (bufEmb L) ⊆ ownRefs (τ := τ) (.scVector (cV L) (jV L)) := by
  intro b hb
  obtain ⟨r, hr, rfl⟩ := Finset.mem_map.mp hb
  refine SparseCore.Cfg.mem_ownRefs_of_owner (p := Proc.scVector (cV L) (jV L)) ?_
  simp only [myBufs, Finset.mem_insert, Finset.mem_singleton] at hr
  rcases hr with rfl | rfl | rfl <;> rfl

/-- The subcore's semaphores: the copies' five, and the rest. -/
theorem ownSems0_tile : (ownSems0 (V d (cV L) (jV L)) : sProp 𝕄)
    = iprop((semVal (V d (cV L) (jV L), .dma cc0_scratch3.sem) 0 ∗ semVal (V d (cV L) (jV L), .dma cc0_scratch4.sem) 0 ∗ semVal (V d (cV L) (jV L), .dma cc0_scoped0.sem) 0
        ∗ semVal (V d (cV L) (jV L), .dma cc0_scoped1.sem) 0 ∗ semVal (V d (cV L) (jV L), .dma cc0_scoped2.sem) 0)
        ∗ bigSep (ownCells (V d (cV L) (jV L)) \ mySems.map (semEmb d L)) fun g => semVal g 0) := by
  unfold SparseCore.Cfg.ownSems0
  refine (bigSep_sdiff_split (mySems_sub d L)).trans ?_
  rw [bigSep_map]
  unfold mySems
  iterate 4 rw [SparseCore.bigSep_insert' (by decide)]
  rw [bigSep_singleton]
  rfl

/-- The subcore's buffers: the three scratches, and the rest. -/
theorem ownBufs_tile : (ownBufs (V d (cV L) (jV L)) : sProp 𝕄)
    = iprop(((∃ g, (V d (cV L) (jV L)).loc cc0_scratch0 ↦{fullShare} g) ∗ (∃ g, (V d (cV L) (jV L)).loc cc0_scratch1 ↦{fullShare} g) ∗ (∃ g, (V d (cV L) (jV L)).loc cc0_scratch2 ↦{fullShare} g))
        ∗ bigSep (ownRefs (τ := τ) (.scVector (cV L) (jV L)) \ myBufs.map (bufEmb L)) fun b => iprop(∃ f, ((d, b) : Loc nD τ sig) ↦{fullShare} f)) := by
  unfold SparseCore.Cfg.ownBufs
  refine (bigSep_sdiff_split (myBufs_sub L)).trans ?_
  rw [bigSep_map]
  unfold myBufs
  iterate 2 rw [SparseCore.bigSep_insert' (by decide)]
  rw [bigSep_singleton]
  rfl

/-- The tile's task: its labels and output in, its labels and the output's value out. -/
theorem task (hF : (K (F := F)).Facts) (q : PosShare TreeShare) (f : Vec F S1000x16384 .f32) (O : CellTallies nD τ sig (HIx 1)) (W : Waits sig (HIx 1))
    (hO : ∀ g, O g none = 0) :
    (iprop(levAts (K (F := F)).L (K (F := F)).lev ∗ emp
        ∗ ((xM.view.loc (V d (cV L) (jV L)) ↦{q} x) ∗ vM.view.loc (V d (cV L) (jV L)) ↦[tileSet L]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (cc0__onehot_body (F := F) L xM (Memref.isWhole_whole _) vM (Memref.isWhole_whole _) sX (Memref.isWhole_whole _) sA (Memref.isWhole_whole _) sB (Memref.isWhole_whole _) cc0_scratch3 cc0_scratch4 cc0_scoped0 cc0_scoped1 cc0_scoped2)
          fun _ => iprop(((xM.view.loc (V d (cV L) (jV L)) ↦{q} x) ∗ vM.view.loc (V d (cV L) (jV L)) ↦[tileSet L]{fullShare} onehot x)
            ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_tile, ownBufs_tile]
  iintro ⟨#Hlv, -, ⟨Hx, Ho⟩, ⟨⟨HX, HA, HB⟩, Hbufs⟩, ⟨⟨SA, SB, S0, S1, S2⟩, Hsems⟩, HO⟩
  ihave #Hmw := ((K (F := F)).mayWaits_none (thr := (V d (cV L) (jV L))) hO) $$ Hlv
  ihave H := (Entails.of_eq (over_eq d L x q f O W).symm) $$ [Hx Ho HX HA HB SA SB S0 S1 S2 HO]
  · isplitl [Hx]; · iexact Hx
    isplitl [HX]; · icases HX with ⟨%g, HX⟩; iexists g; rw [View.set_whole]; iexact HX
    isplitl [HA]; · icases HA with ⟨%g, HA⟩; iexists g; rw [View.set_whole]; iexact HA
    isplitl [HB]; · icases HB with ⟨%g, HB⟩; iexists g; rw [View.set_whole]; iexact HB
    isplitl [SA]; · iexact SA
    isplitl [SB]; · iexact SB
    isplitl [S0]; · iexact S0
    isplitl [S1]; · iexact S1
    isplitl [S2]; · iexact S2
    isplitl [Ho]; · iexact Ho
    unfold owing
    iexists W; isplitr
    · ipureintro; exact fun p hp => .inl hp
    · iexact HO
  ihave H := (body_run d L x q f O W) $$ [H]
  · isplitr; · iexact Hmw
    iexact H
  iapply (wp_wand frame (wpE (defs₀ (F := F)) 𝒱₀ (V d (cV L) (jV L)) none) Set.univ (Q := fun _ => over d L x q (onehot x) O W)) $$ H
  iintro %_ H
  ihave H := (Entails.of_eq (over_eq d L x q (onehot x) O W)) $$ H
  icases H with ⟨Hx, HX, HA, HB, SA, SB, S0, S1, S2, Ho, HO⟩
  isplitl [Hx Ho]
  · isplitl [Hx]; · iexact Hx
    iexact Ho
  isplitl [HX HA HB Hbufs]
  · isplitr [Hbufs]
    · isplitl [HX]; · icases HX with ⟨%g, HX⟩; iexists g; rw [View.set_whole]; iexact HX
      isplitl [HA]; · icases HA with ⟨%g, HA⟩; iexists g; rw [View.set_whole]; iexact HA
      icases HB with ⟨%g, HB⟩; iexists g; rw [View.set_whole]; iexact HB
    · iexact Hbufs
  isplitl [SA SB S0 S1 S2 Hsems]
  · isplitr [Hsems]
    · isplitl [SA]; · iexact SA
      isplitl [SB]; · iexact SB
      isplitl [S0]; · iexact S0
      isplitl [S1]; · iexact S1
      iexact S2
    · iexact Hsems
  unfold owing
  iexact HO

end Task

section Call

variable (m : (ℓ : Loc nD τ sig) → Buf (Elt F) ℓ) (ρ : Dev nD → PrngReg)

/-! ## The call's operands, dealt and gathered -/

abbrev xLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

/-- The labels at the launch, and the output's contents then. -/
abbrev xIn (d : Dev nD) : Vec F S16384 .i32 := m (xLoc d)
abbrev oIn (d : Dev nD) : Vec F S1000x16384 .f32 := m (oLoc d)

/-- Tile `i` of SparseCore `c`'s region of the output, and the SparseCore's own. -/
def tileOf (c i : ℕ) : Finset S1000x16384.Idx :=
  Finset.univ.filter fun y => (y 0).val / 504 = i / 8 ∧ (y 1).val / 1024 = (2 * i + c) % 16
def coreSet (c : ℕ) : Finset S1000x16384.Idx := Finset.univ.filter fun y => (y 1).val / 1024 % 2 = c

theorem tiles_cover {c : ℕ} (hc : c < 2) : (Finset.univ : Finset (Fin 16)).biUnion (fun i => tileOf c i.val) = coreSet c := by
  ext y
  have h0 := out_row_lt y
  have h1 := out_col_lt y
  simp only [Finset.mem_biUnion, Finset.mem_univ, true_and, tileOf, coreSet, Finset.mem_filter]
  constructor
  · rintro ⟨i, -, hi⟩; omega
  · intro h
    exact ⟨⟨8 * ((y 0).val / 504) + (y 1).val / 1024 / 2, by omega⟩, by dsimp only; omega, by dsimp only; omega⟩

theorem tiles_disjoint {c : ℕ} (hc : c < 2) (i : Fin 16) (_ : i ∈ Finset.univ) (j : Fin 16) (_ : j ∈ Finset.univ) (h : i ≠ j) :
    Disjoint (tileOf c i.val) (tileOf c j.val) := by
  refine Finset.disjoint_left.mpr fun y hi hj => h (Fin.ext ?_)
  simp only [tileOf, Finset.mem_filter, Finset.mem_univ, true_and] at hi hj
  omega

theorem cores_cover : (Finset.univ : Finset (Fin 2)).biUnion (fun c => coreSet c.val) = Finset.univ := by
  ext y
  simp only [Finset.mem_biUnion, Finset.mem_univ, true_and, coreSet, Finset.mem_filter, iff_true]
  exact ⟨⟨(y 1).val / 1024 % 2, by omega⟩, rfl⟩

theorem cores_disjoint (c : Fin 2) (_ : c ∈ Finset.univ) (c' : Fin 2) (_ : c' ∈ Finset.univ) (h : c ≠ c') : Disjoint (coreSet c.val) (coreSet c'.val) := by
  refine Finset.disjoint_left.mpr fun y hc hc' => h (Fin.ext ?_)
  simp only [coreSet, Finset.mem_filter, Finset.mem_univ, true_and] at hc hc'
  omega

/-- The labels at a read share, and a region of the output whole. -/
def hand (d : Dev nD) (q : PosShare TreeShare) (x : Vec F S16384 .i32) (I : Finset S1000x16384.Idx) (f : Vec F S1000x16384 .f32) : sProp 𝕄 :=
  iprop((xLoc d ↦{q} x) ∗ oLoc d ↦[I]{fullShare} f)

instance hand_storable (d : Dev nD) (q : PosShare TreeShare) (x : Vec F S16384 .i32) (I : Finset S1000x16384.Idx) (f : Vec F S1000x16384 .f32) :
    BI.Storable (upEmb : UEmb _ 𝕄) (hand d q x I f) := by unfold hand; infer_instance

theorem region_cut (d : Dev nD) (I : Finset S1000x16384.Idx) (f : Vec F S1000x16384 .f32) (n : ℕ) (J : Fin n → Finset S1000x16384.Idx)
    (hJ : Finset.univ.biUnion J = I) (hd : ∀ i ∈ (Finset.univ : Finset (Fin n)), ∀ j ∈ (Finset.univ : Finset (Fin n)), i ≠ j → Disjoint (J i) (J j)) :
    (oLoc d ↦[I]{fullShare} f : sProp 𝕄) = bigSep Finset.univ fun i : Fin n => oLoc d ↦[J i]{fullShare} f := by
  subst hJ
  exact pointsTo_biUnion (ℓ := oLoc d) Finset.univ J hd

/-- One hand cut into `n`, a remainder of the read share kept; -/
theorem hand_deal (d : Dev nD) (q : PosShare TreeShare) (x : Vec F S16384 .i32) (I : Finset S1000x16384.Idx) (f : Vec F S1000x16384 .f32) (n : ℕ)
    (J : Fin n → Finset S1000x16384.Idx) (hJ : Finset.univ.biUnion J = I)
    (hd : ∀ i ∈ (Finset.univ : Finset (Fin n)), ∀ j ∈ (Finset.univ : Finset (Fin n)), i ≠ j → Disjoint (J i) (J j)) :
    (hand d q x I f : sProp 𝕄) ⊢ iprop((xLoc d ↦{Transfers.shareDrop q n} x)
      ∗ bigSep Finset.univ fun i : Fin n => hand d (Transfers.shareTokN q i.val) x (J i) f) := by
  unfold hand
  rw [region_cut d I f n J hJ hd, bigSep_sep']
  iintro ⟨Hx, Ho⟩
  ihave H := (Transfers.pointsTo_toks_split q n) $$ Hx
  icases H with ⟨Hd, Ht⟩
  isplitl [Hd]; · iexact Hd
  isplitl [Ht]; · iexact Ht
  iexact Ho

/-- gathered again. -/
theorem hand_gather (d : Dev nD) (q : PosShare TreeShare) (x : Vec F S16384 .i32) (I : Finset S1000x16384.Idx) (f : Vec F S1000x16384 .f32) (n : ℕ)
    (J : Fin n → Finset S1000x16384.Idx) (hJ : Finset.univ.biUnion J = I)
    (hd : ∀ i ∈ (Finset.univ : Finset (Fin n)), ∀ j ∈ (Finset.univ : Finset (Fin n)), i ≠ j → Disjoint (J i) (J j)) :
    iprop((xLoc d ↦{Transfers.shareDrop q n} x) ∗ bigSep Finset.univ fun i : Fin n => hand d (Transfers.shareTokN q i.val) x (J i) f)
      ⊢ (hand d q x I f : sProp 𝕄) := by
  unfold hand
  rw [region_cut d I f n J hJ hd, bigSep_sep']
  iintro ⟨Hd, Ht, Ho⟩
  isplitl [Hd Ht]
  · iapply (Transfers.pointsTo_toks_join q n)
    isplitl [Hd]; · iexact Hd
    iexact Ht
  iexact Ho

/-- What goes to SparseCore `c` and comes back, the output at `f`; what its tile `i` gets of it. -/
abbrev forCore (d : Dev nD) (c : ℕ) (f : Vec F S1000x16384 .f32) : sProp 𝕄 :=
  hand d (Transfers.shareTokN fullShare c) (xIn m d) (coreSet c) f
abbrev forTile (d : Dev nD) (c i : ℕ) (f : Vec F S1000x16384 .f32) : sProp 𝕄 :=
  hand d (Transfers.shareTokN (Transfers.shareTokN fullShare c) i) (xIn m d) (tileOf c i) f

/-- The call's payloads: the output at its launch contents going, at the one-hot rows coming back. -/
def P : (K (F := F)).Pay (nD := nD) (Val := Elt F) (Name := ℕ) (U := UU) where
  st := fun _ d c => forCore m d c.val (oIn m d)
  dn := fun _ d c => forCore m d c.val (onehot (xIn m d))
  go := fun _ d c i => forTile m d c.val i.val (oIn m d)
  td := fun _ d c i => forTile m d c.val i.val (onehot (xIn m d))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The tiles' tasks, and their operands' split -/

def tileCoords (c : Fin (grid0.bound 0)) (s : Fin (grid0.bound 1)) : grid0.Coords :=
  fun | 0 => c | 1 => s | ⟨_ + 2, h⟩ => absurd h (Nat.not_lt.2 (Nat.le_add_left _ _))

theorem kernel_tile (c : Fin τ.nSC) (s : Fin τ.nSub) :
    defs₀ (F := F) (.scVector c s) 0 () = SparseCore.onTile hcore0 hsub0 (fun c s => cc0__onehot_body (tileCoords c s) xM (Memref.isWhole_whole _) vM (Memref.isWhole_whole _) sX (Memref.isWhole_whole _) sA (Memref.isWhole_whole _) sB (Memref.isWhole_whole _) cc0_scratch3 cc0_scratch4 cc0_scoped0 cc0_scoped1 cc0_scoped2) ⟨⟩ c s := rfl

/-- A task's post in the launch's words: the waits it names are its own. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [kernel_tile]; simp only [SparseCore.onTile, hc, and_self, ↓reduceDIte]
  exact (task d (tileCoords ⟨_, hc.1⟩ ⟨_, hc.2⟩) (xIn m d) hF _ (oIn m d) O W hO).trans (wp_mono frame _ _ fun _ => task_post)

theorem vecSplit : (K (F := F)).VecSplit' (P m) 0 := by
  intro d c
  have hc : c.val < 2 := c.isLt
  show forCore m d c.val (oIn m d) ⊢ |={Set.univ}=> iprop((bigSep (Finset.univ : Finset (Fin 16)) fun i => forTile m d c.val i.val (oIn m d))
      ∗ ((bigSep (Finset.univ : Finset (Fin 16)) fun i => forTile m d c.val i.val (onehot (xIn m d))) -∗ forCore m d c.val (onehot (xIn m d))))
  iintro H
  ihave H := (hand_deal d (Transfers.shareTokN fullShare c.val) (xIn m d) (coreSet c.val) (oIn m d) 16 (fun i => tileOf c.val i.val)
    (tiles_cover hc) (tiles_disjoint hc)) $$ H
  icases H with ⟨Hd, Ht⟩
  imodintro
  isplitl [Ht]; · iexact Ht
  iintro Ht
  iapply (hand_gather d (Transfers.shareTokN fullShare c.val) (xIn m d) (coreSet c.val) (onehot (xIn m d)) 16 (fun i => tileOf c.val i.val)
    (tiles_cover hc) (tiles_disjoint hc))
  isplitl [Hd]; · iexact Hd
  iexact Ht

/-! ## The launch's element -/

def u₀ : UU := (initOf (K (F := F)).hsCells (K (F := F)).hsToks, 1)

theorem launch_element : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  unfold u₀ P
  dsimp only
  rw [he, he]
  iintro Hu
  ihave H := (ownU_pair _ _) $$ Hu
  icases H with ⟨HH, -⟩
  imodintro
  isplitl [HH]; · iexact HH
  isplitr <;> iempintro

/-! ## @main -/

abbrev o' : DevRef τ sig := Proc.devRef .tc (main_v0 : Ref sig .tc)
abbrev r' : DevRef τ sig := Proc.devRef .tc (main_v1 : Ref sig .tc)

/-- The transposition that ends @main, and the result it leaves. -/
abbrev flipped (f : Vec F S1000x16384 .f32) : Vec F S16384x1000 .f32 := transpose S16384x1000 [1, 0] f transposes_S1000x16384_S16384x1000_1_0
abbrev opFlip : HloOp τ sig (Elt F) :=
  StableHlo.unary main_v0 main_v1 ((transpose S16384x1000 [1, 0] · transposes_S1000x16384_S16384x1000_1_0) : (⟨S1000x16384, .f32⟩ : BufTy).Contents (Elt F) → (⟨S16384x1000, .f32⟩ : BufTy).Contents (Elt F))
abbrev rOut (d : Dev nD) : Vec F S16384x1000 .f32 := flipped (onehot (xIn m d))

theorem unscoped_split (d : Dev nD) : (unscopedBufs d (fun b => m ((SparseCore.T d).loc b)) : sProp 𝕄)
    = iprop((xLoc d ↦{fullShare} m (xLoc d)) ∗ (oLoc d ↦{fullShare} m (oLoc d)) ∗ rLoc d ↦{fullShare} m (rLoc d)) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

theorem held_two (d : Dev nD) (W : Valuation τ sig (Elt F)) :
    (held (T d) ({o', r'} : Finset (DevRef τ sig)) W : sProp 𝕄) = iprop((oLoc d ↦{fullShare} W o') ∗ rLoc d ↦{fullShare} W r') := by
  unfold held
  rw [SparseCore.bigSep_insert' (by decide), bigSep_singleton]

/-- The device's arrays after the call. -/
def called (d : Dev nD) : Valuation τ sig (Elt F) := Function.update (fun b => m (d, b)) o' (onehot (xIn m d))

theorem called_o (d : Dev nD) : called m d o' = onehot (xIn m d) := Function.update_self _ _ _
theorem called_r (d : Dev nD) : called m d r' = m (rLoc d) := Function.update_of_ne (show r' ≠ o' by decide) _ _

theorem flipped_r (d : Dev nD) : (opFlip (F := F)).result (called m d) r' = rOut m d := by
  rw [StableHlo.unary_result, called_o]

theorem whole_hand (d : Dev nD) (x : Vec F S16384 .i32) (f : Vec F S1000x16384 .f32) :
    (hand d fullShare x Finset.univ f : sProp 𝕄) = iprop((xLoc d ↦{fullShare} x) ∗ oLoc d ↦{fullShare} f) := rfl

/-- What @main leaves the claims: the labels as they were, the result. -/
abbrev FIN (d : Dev nD) : sProp 𝕄 := iprop((xLoc d ↦{fullShare} m (xLoc d)) ∗ rLoc d ↦{fullShare} rOut m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_split]
  simp only [main, wp_bind, wp_pure]
  iintro ⟨#Hctx, Hst, ⟨Hb, ⟨Hx, Ho, Hr⟩, Hts, -⟩, -⟩
  ihave H := (Entails.of_eq (whole_hand d (xIn m d) (oIn m d)).symm) $$ [Hx Ho]
  · isplitl [Hx] <;> iassumption
  ihave H := (hand_deal d fullShare (xIn m d) Finset.univ (oIn m d) 2 (fun c => coreSet c.val) cores_cover cores_disjoint) $$ H
  icases H with ⟨Hd, Hc⟩
  iapply ((K (F := F)).wp_run (D (F := F)) 𝒱 (EH := EH) (P := P m) κ d 0) $$ [Hst Hc Hd Hr Hb Hts]
  isplitr; · iexact Hctx
  isplitl [Hst]; · iexact Hst
  isplitl [Hc]; · iexact Hc
  iintro ⟨Hst, Hdn⟩
  ihave H := (hand_gather d fullShare (xIn m d) Finset.univ (onehot (xIn m d)) 2 (fun c => coreSet c.val) cores_cover cores_disjoint) $$ [Hd Hdn]
  · isplitl [Hd]; · iexact Hd
    iexact Hdn
  ihave H := (Entails.of_eq (whole_hand d (xIn m d) (onehot (xIn m d)))) $$ H
  icases H with ⟨Hx, Ho⟩
  iapply (wp_hlo_within 𝒱 (SparseCore.T d) none Set.univ (op := opFlip) (S := {o', r'})
    (show ({o', r'} : Finset (DevRef τ sig)) ⊆ {o', r'} from subset_rfl) (V := called m d)) $$ [Hb Ho Hr]
  · isplitl [Hb]; · iexact Hb
    rw [held_two, called_o, called_r]
    isplitl [Ho]; · iexact Ho
    iexact Hr
  iintro ⟨Hb, Hheld⟩
  ihave H := (Entails.of_eq (held_two (F := F) d _)) $$ Hheld
  rw [flipped_r]
  icases H with ⟨-, Hr⟩
  rw [wp_ret]; imodintro; imodintro
  isplitl [Hst]; · iexact Hst
  isplitl [Hx Hr]
  · isplitl [Hx]; · iexact Hx
    iexact Hr
  isplitl [Hb] <;> iassumption

/-! ## The program's run -/

/-- What the claims read of device `d`'s final state. -/
def fq (d : Dev nD) (s' : Phys nD τ sig (Elt F)) : Prop := s'.mem.mem (rLoc d) = rOut m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := rOut m d)) $$ [HSI Hr]
  · isplitl [HSI] <;> iassumption
  icases H with %hr
  ipureintro; exact ⟨funext fun i => hr i (Finset.mem_univ i), funext fun i => hx i (Finset.mem_univ i)⟩

def Final : PUnit × MemSt nD τ sig (Elt F) → Prop :=
  fun r => (∀ c : Dev nD, r.2.mem (rLoc c) = rOut m c ∧ r.2.mem (xLoc c) = m (xLoc c)) ∧ r.2.sem = fun _ => 0

/-- From any memory the program runs to its end: the result at the one-hot rows of the labels, the labels as they
    were, every semaphore at zero. -/
theorem run_main [∀ e, Nonempty (Elt F e)] :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (launch_element m)) (hmain m ρ) (fq m) (hfin m) (Final m) (fun _ h hz => ⟨h, hz⟩)

end Call

end Cert.Proof.OneHot

end
-- ==== Proof.Value.lean ====
/-
  The reference's term is the program's result, at the ideal instance: both are one where the label of the row is the
  column, zero elsewhere.
-/
module

public import proofs.«01_k».proof.Proof.Launch
public import proofs.«01_k».proof.Proof.Gen.ReferenceIdeal.Run
public import Idealize.ShloMosaic.PureOps.IdealRules
public import Idealize.ShloMosaic.Lib.Pointwise.ShapeOpsCore

@[expose] public section

noncomputable section

namespace Cert.Proof.OneHot

open Idealize.ShloMosaic

/-- The reference's composed term. -/
def refOut (x : Vec Ideal Cert.ReferenceIdeal.S16384 .i32) : Vec Ideal Cert.ReferenceIdeal.S16384x1000 .f32 :=
  uitofp (F := Ideal) .f32 (cmpi .eq
    (broadcastInDim Cert.ReferenceIdeal.S16384x1000 ![0, 1] Cert.ReferenceIdeal.Gen.facts.bcast_S16384x1_S16384x1000_0_1
      (broadcastInDim Cert.ReferenceIdeal.S16384x1 ![0] Cert.ReferenceIdeal.Gen.facts.bcast_S16384_S16384x1_0 x))
    (broadcastInDim Cert.ReferenceIdeal.S16384x1000 ![0, 1] Cert.ReferenceIdeal.Gen.facts.bcast_S1x1000_S16384x1000_0_1
      (iotaInDim Cert.ReferenceIdeal.S1x1000 32 1)))

theorem one_ideal : (oneF : Ideal .f32) = (((1#1).toNat : ℝ) : EReal) := by
  have h : (oneF : Ideal .f32) = 1 := IdealRules.sign_bit.ideal_onePat .f32
  rw [h]; simp
theorem zero_ideal : (zeroF : Ideal .f32) = (((0#1).toNat : ℝ) : EReal) := by
  have h : (zeroF : Ideal .f32) = 0 := IdealRules.sign_bit.ideal_zero .f32
  rw [h]; simp

theorem refOut_eq (x : Vec Ideal Cert.KernelIdeal.S16384 .i32) : refOut x = flipped (F := Ideal) (onehot x) := by
  funext j
  have hr : (j 0).val < 16384 := (j 0).isLt
  have hc : (j 1).val < 1000 := (j 1).isLt
  have e : flipped (F := Ideal) (onehot x) j = if (x (ixX (j 0).val hr)).toNat = (j 1).val then (oneF : Ideal .f32) else zeroF := by
    have h0 : (Cert.KernelIdeal.Gen.facts.transposes_S1000x16384_S16384x1000_1_0.src j 0).val = (j 1).val := by
      rw [Shape.Transposes.src_apply_val]; rfl
    have h1 : (Cert.KernelIdeal.Gen.facts.transposes_S1000x16384_S16384x1000_1_0.src j 1).val = (j 0).val := by
      rw [Shape.Transposes.src_apply_val]; rfl
    unfold flipped transpose onehot
    have hx : ∀ n h, n = (j 0).val → ixX n h = ixX (j 0).val hr := by rintro _ _ rfl; rfl
    rw [hx _ _ h1, h0]
  have e' : refOut x j = (((IntOp.cmpi .eq (x (ixX (j 0).val hr)) (BitVec.ofNat 32 (j 1).val)).toNat : ℝ) : EReal) := by
    rw [← ixX_eq (fun a => ⟨(j 0).val, by rw [Fin.eq_zero a]; exact hr⟩) (j 0).val hr rfl]
    show (((IntOp.cmpi .eq (x _) (BitVec.ofNat 32 _)).toNat : ℝ) : EReal) = _
    congr 4
    refine congrArg x (funext fun a => Fin.ext ?_)
    rw [Fin.eq_zero a]; rfl
  have hb : (x (ixX (j 0).val hr)).toNat = (j 1).val ↔ x (ixX (j 0).val hr) = BitVec.ofNat 32 (j 1).val := by
    rw [← BitVec.toNat_inj, BitVec.toNat_ofNat, Nat.mod_eq_of_lt (by omega)]
  rw [e, e']
  simp only [hb]
  by_cases h : x (ixX (j 0).val hr) = BitVec.ofNat 32 (j 1).val
  · rw [if_pos h, one_ideal, show IntOp.cmpi .eq (x (ixX (j 0).val hr)) (BitVec.ofNat 32 (j 1).val) = 1#1 by simp [IntOp.cmpi, h]]
  · rw [if_neg h, zero_ideal, show IntOp.cmpi .eq (x (ixX (j 0).val hr)) (BitVec.ofNat 32 (j 1).val) = 0#1 by
      simp only [IntOp.cmpi, beq_eq_false_iff_ne.mpr h, BitVec.ofBool_false]; rfl]

end Cert.Proof.OneHot

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel leaves its labels as they were and every counter at zero: the program's run at the bit-exact instance. -/
theorem frame_kernel : Cert.quiescent_Kernel := fun m ρ _ =>
  (θ_run Cert.KernelIdeal.defs _ _).mono (fun _ h => ⟨fun c => (h.1 c).2, h.2⟩) (OneHot.run_main (F := Bits) m ρ)

/-- The same at the ideal instance. -/
theorem frame_ideal : Cert.quiescent_KernelIdeal := fun m ρ _ =>
  (θ_run Cert.KernelIdeal.defs _ _).mono (fun _ h => ⟨fun c => (h.1 c).2, h.2⟩) (OneHot.run_main (F := Ideal) m ρ)

/-- The reference leaves its labels as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal labels the kernel and the reference end at equal results. -/
theorem algebraic : Cert.algebraic_KernelIdeal_ReferenceIdeal := by
  intro m ρ m' ρ' _ hx
  refine ⟨fun c => OneHot.rOut m c, (θ_run Cert.KernelIdeal.defs _ _).mono (fun _ h c => h.1 c) (OneHot.run_main (F := Ideal) m ρ),
    (θ_run Cert.ReferenceIdeal.defs _ _).mono (fun _ h c => ⟨(h c).1.trans ?_, (h c).2⟩) (Cert.ReferenceIdeal.Value.run (F := Ideal) m' ρ')⟩
  rw [hx c]
  exact OneHot.refOut_eq _

theorem claim : Cert.Claim := ⟨Cert.Kernel.Gen.facts, Cert.KernelIdeal.Gen.facts, Cert.ReferenceIdeal.Gen.facts,
  frame_kernel, frame_ideal, frame_reference, trivial, algebraic⟩

end Cert.Proof

end
